-- ==== Defs.lean ====
def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelMm (m : (ℓ : Loc Cert.KernelMm.nD Cert.KernelMm.τ Cert.KernelMm.sig) → Buf (Elt Bits) ℓ) : Prop :=
  True

def Pre_KernelMmIdeal (m : (ℓ : Loc Cert.KernelMmIdeal.nD Cert.KernelMmIdeal.τ Cert.KernelMmIdeal.sig) → Buf (Elt Ideal) ℓ) : Prop :=
  True

def Pre_ReferenceMmIdeal (m : (ℓ : Loc Cert.ReferenceMmIdeal.nD Cert.ReferenceMmIdeal.τ Cert.ReferenceMmIdeal.sig) → Buf (Elt Ideal) ℓ) : Prop :=
  True

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2)
      ∧ r.2.mem ((c.tc : Thread Cert.KernelLn.nD Cert.KernelLn.τ).loc Cert.KernelLn.main_arg3) = m ((c.tc : Thread Cert.KernelLn.nD Cert.KernelLn.τ).loc Cert.KernelLn.main_arg3))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3))
      ∧ r.2.sem = fun _ => 0)

def quiescent_KernelMm [hKernelMm : Cert.KernelMm.Facts] : Prop :=
  ∀ (m : (ℓ : Loc Cert.KernelMm.nD Cert.KernelMm.τ Cert.KernelMm.sig) → Buf (Elt Bits) ℓ) (g : Dev Cert.KernelMm.nD → PrngReg), Pre_KernelMm m →
    θ_run (Cert.KernelMm.defs (F := Bits)) (onTc (τ := Cert.KernelMm.τ) (Cert.KernelMm.main (F := Bits))) ⟨m, fun _ => 0, g⟩ (fun r => (∀ c : Dev Cert.KernelMm.nD,
      r.2.mem ((c.tc : Thread Cert.KernelMm.nD Cert.KernelMm.τ).loc Cert.KernelMm.main_arg0) = m ((c.tc : Thread Cert.KernelMm.nD Cert.KernelMm.τ).loc Cert.KernelMm.main_arg0)
      ∧ r.2.mem ((c.tc : Thread Cert.KernelMm.nD Cert.KernelMm.τ).loc Cert.KernelMm.main_arg1) = m ((c.tc : Thread Cert.KernelMm.nD Cert.KernelMm.τ).loc Cert.KernelMm.main_arg1)
      ∧ r.2.mem ((c.tc : Thread Cert.KernelMm.nD Cert.KernelMm.τ).loc Cert.KernelMm.main_arg2) = m ((c.tc : Thread Cert.KernelMm.nD Cert.KernelMm.τ).loc Cert.KernelMm.main_arg2)
      ∧ r.2.mem ((c.tc : Thread Cert.KernelMm.nD Cert.KernelMm.τ).loc Cert.KernelMm.main_arg3) = m ((c.tc : Thread Cert.KernelMm.nD Cert.KernelMm.τ).loc Cert.KernelMm.main_arg3)
      ∧ r.2.mem ((c.tc : Thread Cert.KernelMm.nD Cert.KernelMm.τ).loc Cert.KernelMm.main_arg4) = m ((c.tc : Thread Cert.KernelMm.nD Cert.KernelMm.τ).loc Cert.KernelMm.main_arg4))
      ∧ r.2.sem = fun _ => 0)

def quiescent_KernelMmIdeal [hKernelMmIdeal : Cert.KernelMmIdeal.Facts] : Prop :=
  ∀ (m : (ℓ : Loc Cert.KernelMmIdeal.nD Cert.KernelMmIdeal.τ Cert.KernelMmIdeal.sig) → Buf (Elt Ideal) ℓ) (g : Dev Cert.KernelMmIdeal.nD → PrngReg), Pre_KernelMmIdeal m →
    θ_run (Cert.KernelMmIdeal.defs (F := Ideal)) (onTc (τ := Cert.KernelMmIdeal.τ) (Cert.KernelMmIdeal.main (F := Ideal))) ⟨m, fun _ => 0, g⟩ (fun r => (∀ c : Dev Cert.KernelMmIdeal.nD,
      r.2.mem ((c.tc : Thread Cert.KernelMmIdeal.nD Cert.KernelMmIdeal.τ).loc Cert.KernelMmIdeal.main_arg0) = m ((c.tc : Thread Cert.KernelMmIdeal.nD Cert.KernelMmIdeal.τ).loc Cert.KernelMmIdeal.main_arg0)
      ∧ r.2.mem ((c.tc : Thread Cert.KernelMmIdeal.nD Cert.KernelMmIdeal.τ).loc Cert.KernelMmIdeal.main_arg1) = m ((c.tc : Thread Cert.KernelMmIdeal.nD Cert.KernelMmIdeal.τ).loc Cert.KernelMmIdeal.main_arg1)
      ∧ r.2.mem ((c.tc : Thread Cert.KernelMmIdeal.nD Cert.KernelMmIdeal.τ).loc Cert.KernelMmIdeal.main_arg2) = m ((c.tc : Thread Cert.KernelMmIdeal.nD Cert.KernelMmIdeal.τ).loc Cert.KernelMmIdeal.main_arg2)
      ∧ r.2.mem ((c.tc : Thread Cert.KernelMmIdeal.nD Cert.KernelMmIdeal.τ).loc Cert.KernelMmIdeal.main_arg3) = m ((c.tc : Thread Cert.KernelMmIdeal.nD Cert.KernelMmIdeal.τ).loc Cert.KernelMmIdeal.main_arg3)
      ∧ r.2.mem ((c.tc : Thread Cert.KernelMmIdeal.nD Cert.KernelMmIdeal.τ).loc Cert.KernelMmIdeal.main_arg4) = m ((c.tc : Thread Cert.KernelMmIdeal.nD Cert.KernelMmIdeal.τ).loc Cert.KernelMmIdeal.main_arg4))
      ∧ r.2.sem = fun _ => 0)

def quiescent_ReferenceMmIdeal [hReferenceMmIdeal : Cert.ReferenceMmIdeal.Facts] : Prop :=
  ∀ (m : (ℓ : Loc Cert.ReferenceMmIdeal.nD Cert.ReferenceMmIdeal.τ Cert.ReferenceMmIdeal.sig) → Buf (Elt Ideal) ℓ) (g : Dev Cert.ReferenceMmIdeal.nD → PrngReg), Pre_ReferenceMmIdeal m →
    θ_run (Cert.ReferenceMmIdeal.defs (F := Ideal)) (onTc (τ := Cert.ReferenceMmIdeal.τ) (Cert.ReferenceMmIdeal.main (F := Ideal))) ⟨m, fun _ => 0, g⟩ (fun r => (∀ c : Dev Cert.ReferenceMmIdeal.nD,
      r.2.mem ((c.tc : Thread Cert.ReferenceMmIdeal.nD Cert.ReferenceMmIdeal.τ).loc Cert.ReferenceMmIdeal.main_arg0) = m ((c.tc : Thread Cert.ReferenceMmIdeal.nD Cert.ReferenceMmIdeal.τ).loc Cert.ReferenceMmIdeal.main_arg0)
      ∧ r.2.mem ((c.tc : Thread Cert.ReferenceMmIdeal.nD Cert.ReferenceMmIdeal.τ).loc Cert.ReferenceMmIdeal.main_arg1) = m ((c.tc : Thread Cert.ReferenceMmIdeal.nD Cert.ReferenceMmIdeal.τ).loc Cert.ReferenceMmIdeal.main_arg1)
      ∧ r.2.mem ((c.tc : Thread Cert.ReferenceMmIdeal.nD Cert.ReferenceMmIdeal.τ).loc Cert.ReferenceMmIdeal.main_arg2) = m ((c.tc : Thread Cert.ReferenceMmIdeal.nD Cert.ReferenceMmIdeal.τ).loc Cert.ReferenceMmIdeal.main_arg2)
      ∧ r.2.mem ((c.tc : Thread Cert.ReferenceMmIdeal.nD Cert.ReferenceMmIdeal.τ).loc Cert.ReferenceMmIdeal.main_arg3) = m ((c.tc : Thread Cert.ReferenceMmIdeal.nD Cert.ReferenceMmIdeal.τ).loc Cert.ReferenceMmIdeal.main_arg3)
      ∧ r.2.mem ((c.tc : Thread Cert.ReferenceMmIdeal.nD Cert.ReferenceMmIdeal.τ).loc Cert.ReferenceMmIdeal.main_arg4) = m ((c.tc : Thread Cert.ReferenceMmIdeal.nD Cert.ReferenceMmIdeal.τ).loc Cert.ReferenceMmIdeal.main_arg4))
      ∧ r.2.sem = fun _ => 0)

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v5)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v5) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)
      ∧ m' ((c.tc : Thread Cert.ReferenceLnIdeal.nD Cert.ReferenceLnIdeal.τ).loc Cert.ReferenceLnIdeal.main_arg3) = m ((c.tc : Thread Cert.KernelLnIdeal.nD Cert.KernelLnIdeal.τ).loc Cert.KernelLnIdeal.main_arg3)) →
    ∃ (v0 : (c : Dev Cert.KernelLnIdeal.nD) → Buf (Elt Ideal) ((c.tc : Thread Cert.KernelLnIdeal.nD Cert.KernelLnIdeal.τ).loc Cert.KernelLnIdeal.main_v4_0)) (v1 : (c : Dev Cert.KernelLnIdeal.nD) → Buf (Elt Ideal) ((c.tc : Thread Cert.KernelLnIdeal.nD Cert.KernelLnIdeal.τ).loc Cert.KernelLnIdeal.main_v4_1)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v4_0) = v0 c
          ∧ r.2.mem ((c.tc : Thread Cert.KernelLnIdeal.nD Cert.KernelLnIdeal.τ).loc Cert.KernelLnIdeal.main_v4_1) = v1 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
          ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v3_0) = v0 c
          ∧ r.2.mem ((c.tc : Thread Cert.ReferenceLnIdeal.nD Cert.ReferenceLnIdeal.τ).loc Cert.ReferenceLnIdeal.main_v3_1) = v1 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2)
          ∧ r.2.mem ((c.tc : Thread Cert.ReferenceLnIdeal.nD Cert.ReferenceLnIdeal.τ).loc Cert.ReferenceLnIdeal.main_arg3) = m' ((c.tc : Thread Cert.ReferenceLnIdeal.nD Cert.ReferenceLnIdeal.τ).loc Cert.ReferenceLnIdeal.main_arg3))

def preserves_KernelMm_KernelMmIdeal : Prop :=
  True

def algebraic_KernelMmIdeal_ReferenceMmIdeal [hKernelMmIdeal : Cert.KernelMmIdeal.Facts] [hReferenceMmIdeal : Cert.ReferenceMmIdeal.Facts] : Prop :=
  ∀ (m : (ℓ : Loc Cert.KernelMmIdeal.nD Cert.KernelMmIdeal.τ Cert.KernelMmIdeal.sig) → Buf (Elt Ideal) ℓ) (g : Dev Cert.KernelMmIdeal.nD → PrngReg)
    (m' : (ℓ : Loc Cert.ReferenceMmIdeal.nD Cert.ReferenceMmIdeal.τ Cert.ReferenceMmIdeal.sig) → Buf (Elt Ideal) ℓ) (g' : Dev Cert.ReferenceMmIdeal.nD → PrngReg), Pre_KernelMmIdeal m →
    (∀ c : Dev Cert.KernelMmIdeal.nD,
      m' ((c.tc : Thread Cert.ReferenceMmIdeal.nD Cert.ReferenceMmIdeal.τ).loc Cert.ReferenceMmIdeal.main_arg0) = m ((c.tc : Thread Cert.KernelMmIdeal.nD Cert.KernelMmIdeal.τ).loc Cert.KernelMmIdeal.main_arg0)
      ∧ m' ((c.tc : Thread Cert.ReferenceMmIdeal.nD Cert.ReferenceMmIdeal.τ).loc Cert.ReferenceMmIdeal.main_arg1) = m ((c.tc : Thread Cert.KernelMmIdeal.nD Cert.KernelMmIdeal.τ).loc Cert.KernelMmIdeal.main_arg1)
      ∧ m' ((c.tc : Thread Cert.ReferenceMmIdeal.nD Cert.ReferenceMmIdeal.τ).loc Cert.ReferenceMmIdeal.main_arg2) = m ((c.tc : Thread Cert.KernelMmIdeal.nD Cert.KernelMmIdeal.τ).loc Cert.KernelMmIdeal.main_arg2)
      ∧ m' ((c.tc : Thread Cert.ReferenceMmIdeal.nD Cert.ReferenceMmIdeal.τ).loc Cert.ReferenceMmIdeal.main_arg3) = m ((c.tc : Thread Cert.KernelMmIdeal.nD Cert.KernelMmIdeal.τ).loc Cert.KernelMmIdeal.main_arg3)
      ∧ m' ((c.tc : Thread Cert.ReferenceMmIdeal.nD Cert.ReferenceMmIdeal.τ).loc Cert.ReferenceMmIdeal.main_arg4) = m ((c.tc : Thread Cert.KernelMmIdeal.nD Cert.KernelMmIdeal.τ).loc Cert.KernelMmIdeal.main_arg4)) →
    ∃ (v0 : (c : Dev Cert.KernelMmIdeal.nD) → Buf (Elt Ideal) ((c.tc : Thread Cert.KernelMmIdeal.nD Cert.KernelMmIdeal.τ).loc Cert.KernelMmIdeal.main_v4)),
      θ_run (Cert.KernelMmIdeal.defs (F := Ideal)) (onTc (τ := Cert.KernelMmIdeal.τ) (Cert.KernelMmIdeal.main (F := Ideal))) ⟨m, fun _ => 0, g⟩ (fun r => ∀ c : Dev Cert.KernelMmIdeal.nD,
          r.2.mem ((c.tc : Thread Cert.KernelMmIdeal.nD Cert.KernelMmIdeal.τ).loc Cert.KernelMmIdeal.main_v4) = v0 c
          ∧ r.2.mem ((c.tc : Thread Cert.KernelMmIdeal.nD Cert.KernelMmIdeal.τ).loc Cert.KernelMmIdeal.main_arg0) = m ((c.tc : Thread Cert.KernelMmIdeal.nD Cert.KernelMmIdeal.τ).loc Cert.KernelMmIdeal.main_arg0)
          ∧ r.2.mem ((c.tc : Thread Cert.KernelMmIdeal.nD Cert.KernelMmIdeal.τ).loc Cert.KernelMmIdeal.main_arg1) = m ((c.tc : Thread Cert.KernelMmIdeal.nD Cert.KernelMmIdeal.τ).loc Cert.KernelMmIdeal.main_arg1)
          ∧ r.2.mem ((c.tc : Thread Cert.KernelMmIdeal.nD Cert.KernelMmIdeal.τ).loc Cert.KernelMmIdeal.main_arg2) = m ((c.tc : Thread Cert.KernelMmIdeal.nD Cert.KernelMmIdeal.τ).loc Cert.KernelMmIdeal.main_arg2)
          ∧ r.2.mem ((c.tc : Thread Cert.KernelMmIdeal.nD Cert.KernelMmIdeal.τ).loc Cert.KernelMmIdeal.main_arg3) = m ((c.tc : Thread Cert.KernelMmIdeal.nD Cert.KernelMmIdeal.τ).loc Cert.KernelMmIdeal.main_arg3)
          ∧ r.2.mem ((c.tc : Thread Cert.KernelMmIdeal.nD Cert.KernelMmIdeal.τ).loc Cert.KernelMmIdeal.main_arg4) = m ((c.tc : Thread Cert.KernelMmIdeal.nD Cert.KernelMmIdeal.τ).loc Cert.KernelMmIdeal.main_arg4))
      ∧ θ_run (Cert.ReferenceMmIdeal.defs (F := Ideal)) (onTc (τ := Cert.ReferenceMmIdeal.τ) (Cert.ReferenceMmIdeal.main (F := Ideal))) ⟨m', fun _ => 0, g'⟩ (fun r => ∀ c : Dev Cert.ReferenceMmIdeal.nD,
          r.2.mem ((c.tc : Thread Cert.ReferenceMmIdeal.nD Cert.ReferenceMmIdeal.τ).loc Cert.ReferenceMmIdeal.main_v4) = v0 c
          ∧ r.2.mem ((c.tc : Thread Cert.ReferenceMmIdeal.nD Cert.ReferenceMmIdeal.τ).loc Cert.ReferenceMmIdeal.main_arg0) = m' ((c.tc : Thread Cert.ReferenceMmIdeal.nD Cert.ReferenceMmIdeal.τ).loc Cert.ReferenceMmIdeal.main_arg0)
          ∧ r.2.mem ((c.tc : Thread Cert.ReferenceMmIdeal.nD Cert.ReferenceMmIdeal.τ).loc Cert.ReferenceMmIdeal.main_arg1) = m' ((c.tc : Thread Cert.ReferenceMmIdeal.nD Cert.ReferenceMmIdeal.τ).loc Cert.ReferenceMmIdeal.main_arg1)
          ∧ r.2.mem ((c.tc : Thread Cert.ReferenceMmIdeal.nD Cert.ReferenceMmIdeal.τ).loc Cert.ReferenceMmIdeal.main_arg2) = m' ((c.tc : Thread Cert.ReferenceMmIdeal.nD Cert.ReferenceMmIdeal.τ).loc Cert.ReferenceMmIdeal.main_arg2)
          ∧ r.2.mem ((c.tc : Thread Cert.ReferenceMmIdeal.nD Cert.ReferenceMmIdeal.τ).loc Cert.ReferenceMmIdeal.main_arg3) = m' ((c.tc : Thread Cert.ReferenceMmIdeal.nD Cert.ReferenceMmIdeal.τ).loc Cert.ReferenceMmIdeal.main_arg3)
          ∧ r.2.mem ((c.tc : Thread Cert.ReferenceMmIdeal.nD Cert.ReferenceMmIdeal.τ).loc Cert.ReferenceMmIdeal.main_arg4) = m' ((c.tc : Thread Cert.ReferenceMmIdeal.nD Cert.ReferenceMmIdeal.τ).loc Cert.ReferenceMmIdeal.main_arg4))

def Claim : Prop :=
  ∃ (hKernelOut : Cert.KernelOut.Facts) (hKernelOutIdeal : Cert.KernelOutIdeal.Facts) (hReferenceOutIdeal : Cert.ReferenceOutIdeal.Facts) (hKernelLn : Cert.KernelLn.Facts) (hKernelLnIdeal : Cert.KernelLnIdeal.Facts) (hReferenceLnIdeal : Cert.ReferenceLnIdeal.Facts) (hKernelMm : Cert.KernelMm.Facts) (hKernelMmIdeal : Cert.KernelMmIdeal.Facts) (hReferenceMmIdeal : Cert.ReferenceMmIdeal.Facts),
    quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelMm (hKernelMm := hKernelMm)
    ∧ quiescent_KernelMmIdeal (hKernelMmIdeal := hKernelMmIdeal)
    ∧ quiescent_ReferenceMmIdeal (hReferenceMmIdeal := hReferenceMmIdeal)
    ∧ preserves_KernelOut_KernelOutIdeal
    ∧ algebraic_KernelOutIdeal_ReferenceOutIdeal (hKernelOutIdeal := hKernelOutIdeal) (hReferenceOutIdeal := hReferenceOutIdeal)
    ∧ preserves_KernelLn_KernelLnIdeal
    ∧ algebraic_KernelLnIdeal_ReferenceLnIdeal (hKernelLnIdeal := hKernelLnIdeal) (hReferenceLnIdeal := hReferenceLnIdeal)
    ∧ preserves_KernelMm_KernelMmIdeal
    ∧ algebraic_KernelMmIdeal_ReferenceMmIdeal (hKernelMmIdeal := hKernelMmIdeal) (hReferenceMmIdeal := hReferenceMmIdeal)
-- ==== KernelOut.lean ====
abbrev S4x512x1024 : Shape := ⟨3, ![4, 512, 1024]⟩
abbrev S1024x1024 : Shape := ⟨2, ![1024, 1024]⟩
abbrev S1024 : Shape := ⟨1, ![1024]⟩
abbrev S_ : Shape := ⟨0, ![]⟩
abbrev S2048x1024 : Shape := ⟨2, ![2048, 1024]⟩
abbrev S1x1024 : Shape := ⟨2, ![1, 1024]⟩
abbrev S1x1 : Shape := ⟨2, ![1, 1]⟩
abbrev S256x1024 : Shape := ⟨2, ![256, 1024]⟩

abbrev nBuf : Space → Nat
  | .hbm => 12
  | .vmem => 7
  | .smem => 1
  | _ => 0

abbrev bufTy : (tb : Table) → Fin (tcTables nBuf tb) → BufTy
  | .hbm, ⟨0, _⟩ => ⟨S4x512x1024, .bf16⟩
  | .hbm, ⟨1, _⟩ => ⟨S4x512x1024, .fp8e4m3⟩
  | .hbm, ⟨2, _⟩ => ⟨S1024x1024, .fp8e4m3⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S2048x1024, .bf16⟩
  | .hbm, ⟨7, _⟩ => ⟨S2048x1024, .fp8e4m3⟩
  | .hbm, ⟨8, _⟩ => ⟨S1x1024, .f32⟩
  | .hbm, ⟨9, _⟩ => ⟨S1x1024, .f32⟩
  | .hbm, ⟨10, _⟩ => ⟨S1x1, .f32⟩
  | .hbm, ⟨11, _⟩ => ⟨S2048x1024, .bf16⟩
  | .local _ .vmem, ⟨0, _⟩ => ⟨S2048x1024, .bf16⟩
  | .local _ .vmem, ⟨1, _⟩ => ⟨S2048x1024, .fp8e4m3⟩
  | .local _ .vmem, ⟨2, _⟩ => ⟨S1024x1024, .fp8e4m3⟩
  | .local _ .vmem, ⟨3, _⟩ => ⟨S1x1024, .f32⟩
  | .local _ .vmem, ⟨4, _⟩ => ⟨S1x1024, .f32⟩
  | .local _ .vmem, ⟨5, _⟩ => ⟨S2048x1024, .bf16⟩
  | .local _ .vmem, ⟨6, _⟩ => ⟨S1x1024, .f32⟩
  | .local _ .smem, ⟨0, _⟩ => ⟨S1x1, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v9 : BitVec 32 := Scalar.muli arg8 c256_i32
  v9
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v9 : BitVec 32 := Scalar.muli arg8 c256_i32
  let v10 : BitVec 32 := v9
  let v11 : Index := Scalar.indexCast v10
  let c0_6 : Index := 0#32
  ![v11.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceOutIdeal.lean ====
abbrev S4x512x1024 : Shape := ⟨3, ![4, 512, 1024]⟩
abbrev S1024x1024 : Shape := ⟨2, ![1024, 1024]⟩
abbrev S1024 : Shape := ⟨1, ![1024]⟩
abbrev S_ : Shape := ⟨0, ![]⟩
abbrev S2048x1024 : Shape := ⟨2, ![2048, 1024]⟩
abbrev S1x1024 : Shape := ⟨2, ![1, 1024]⟩
abbrev S1x1 : Shape := ⟨2, ![1, 1]⟩

abbrev nBuf : Space → Nat
  | .hbm => 12
  | .vmem => 6
  | .smem => 1
  | _ => 0

abbrev bufTy : (tb : Table) → Fin (tcTables nBuf tb) → BufTy
  | .hbm, ⟨0, _⟩ => ⟨S4x512x1024, .bf16⟩
  | .hbm, ⟨1, _⟩ => ⟨S4x512x1024, .fp8e4m3⟩
  | .hbm, ⟨2, _⟩ => ⟨S1024x1024, .fp8e4m3⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S2048x1024, .bf16⟩
  | .hbm, ⟨7, _⟩ => ⟨S2048x1024, .fp8e4m3⟩
  | .hbm, ⟨8, _⟩ => ⟨S1x1024, .f32⟩
  | .hbm, ⟨9, _⟩ => ⟨S1x1024, .f32⟩
  | .hbm, ⟨10, _⟩ => ⟨S1x1, .f32⟩
  | .hbm, ⟨11, _⟩ => ⟨S2048x1024, .bf16⟩
  | .local _ .vmem, ⟨0, _⟩ => ⟨S2048x1024, .bf16⟩
  | .local _ .vmem, ⟨1, _⟩ => ⟨S2048x1024, .fp8e4m3⟩
  | .local _ .vmem, ⟨2, _⟩ => ⟨S1024x1024, .fp8e4m3⟩
  | .local _ .vmem, ⟨3, _⟩ => ⟨S1x1024, .f32⟩
  | .local _ .vmem, ⟨4, _⟩ => ⟨S1x1024, .f32⟩
  | .local _ .vmem, ⟨5, _⟩ => ⟨S2048x1024, .bf16⟩
  | .local _ .smem, ⟨0, _⟩ => ⟨S1x1, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelLn.lean ====
abbrev S4x512x1024 : Shape := ⟨3, ![4, 512, 1024]⟩
abbrev S1024 : Shape := ⟨1, ![1024]⟩
abbrev S_ : Shape := ⟨0, ![]⟩
abbrev S2048x1024 : Shape := ⟨2, ![2048, 1024]⟩
abbrev S1x1024 : Shape := ⟨2, ![1, 1024]⟩
abbrev S1x1 : Shape := ⟨2, ![1, 1]⟩
abbrev S4x512 : Shape := ⟨2, ![4, 512]⟩
abbrev S2048x128 : Shape := ⟨2, ![2048, 128]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128 : Shape := ⟨2, ![1, 128]⟩

abbrev nBuf : Space → Nat
  | .hbm => 10
  | .vmem => 6
  | .smem => 1
  | _ => 0

abbrev bufTy : (tb : Table) → Fin (tcTables nBuf tb) → BufTy
  | .hbm, ⟨0, _⟩ => ⟨S4x512x1024, .bf16⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S2048x1024, .bf16⟩
  | .hbm, ⟨5, _⟩ => ⟨S1x1024, .f32⟩
  | .hbm, ⟨6, _⟩ => ⟨S1x1024, .f32⟩
  | .hbm, ⟨7, _⟩ => ⟨S1x1, .f32⟩
  | .hbm, ⟨8, _⟩ => ⟨S2048x1024, .fp8e4m3⟩
  | .hbm, ⟨9, _⟩ => ⟨S4x512, .f32⟩
  | .local _ .vmem, ⟨0, _⟩ => ⟨S2048x1024, .bf16⟩
  | .local _ .vmem, ⟨1, _⟩ => ⟨S1x1024, .f32⟩
  | .local _ .vmem, ⟨2, _⟩ => ⟨S1x1024, .f32⟩
  | .local _ .vmem, ⟨3, _⟩ => ⟨S2048x1024, .fp8e4m3⟩
  | .local _ .vmem, ⟨4, _⟩ => ⟨S4x512, .f32⟩
  | .local _ .vmem, ⟨5, _⟩ => ⟨S2048x128, .f32⟩
  | .local _ .smem, ⟨0, _⟩ => ⟨S1x1, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v87 : BitVec 32 := Scalar.muli arg7 c128_i32
  v87
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v87 : BitVec 32 := Scalar.muli arg7 c128_i32
  let v88 : BitVec 32 := v87
  let v89 : Index := Scalar.indexCast v88
  let c0_68 : Index := 0#32
  ![v89.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v87 : BitVec 32 := Scalar.muli arg7 c128_i32
  let v88 : BitVec 32 := v87
  let v136 : Index := Scalar.indexCast v88
  let c0_74 : Index := 0#32
  ![v136.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceLnIdeal.lean ====
abbrev S4x512x1024 : Shape := ⟨3, ![4, 512, 1024]⟩
abbrev S1024 : Shape := ⟨1, ![1024]⟩
abbrev S_ : Shape := ⟨0, ![]⟩
abbrev S1x1x1024 : Shape := ⟨3, ![1, 1, 1024]⟩
abbrev S1x1 : Shape := ⟨2, ![1, 1]⟩
abbrev S2048x1024 : Shape := ⟨2, ![2048, 1024]⟩
abbrev S4x512 : Shape := ⟨2, ![4, 512]⟩
abbrev S4x512x1 : Shape := ⟨3, ![4, 512, 1]⟩

abbrev nBuf : Space → Nat
  | .hbm => 9
  | .vmem => 5
  | .smem => 1
  | _ => 0

abbrev bufTy : (tb : Table) → Fin (tcTables nBuf tb) → BufTy
  | .hbm, ⟨0, _⟩ => ⟨S4x512x1024, .bf16⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S1x1x1024, .f32⟩
  | .hbm, ⟨5, _⟩ => ⟨S1x1x1024, .f32⟩
  | .hbm, ⟨6, _⟩ => ⟨S1x1, .f32⟩
  | .hbm, ⟨7, _⟩ => ⟨S2048x1024, .fp8e4m3⟩
  | .hbm, ⟨8, _⟩ => ⟨S4x512, .f32⟩
  | .local _ .vmem, ⟨0, _⟩ => ⟨S4x512x1024, .bf16⟩
  | .local _ .vmem, ⟨1, _⟩ => ⟨S1x1x1024, .f32⟩
  | .local _ .vmem, ⟨2, _⟩ => ⟨S1x1x1024, .f32⟩
  | .local _ .vmem, ⟨3, _⟩ => ⟨S2048x1024, .fp8e4m3⟩
  | .local _ .vmem, ⟨4, _⟩ => ⟨S4x512, .f32⟩
  | .local _ .smem, ⟨0, _⟩ => ⟨S1x1, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelMm.lean ====
abbrev S4x512x1024 : Shape := ⟨3, ![4, 512, 1024]⟩
abbrev S1024x2048 : Shape := ⟨2, ![1024, 2048]⟩
abbrev S2048 : Shape := ⟨1, ![2048]⟩
abbrev S_ : Shape := ⟨0, ![]⟩
abbrev S2048x1024 : Shape := ⟨2, ![2048, 1024]⟩
abbrev S1x2048 : Shape := ⟨2, ![1, 2048]⟩
abbrev S1x1 : Shape := ⟨2, ![1, 1]⟩
abbrev S2x2336x128 : Shape := ⟨3, ![2, 2336, 128]⟩
abbrev S16x128 : Shape := ⟨2, ![16, 128]⟩
abbrev S1x2336x128 : Shape := ⟨3, ![1, 2336, 128]⟩
abbrev S2336x128 : Shape := ⟨2, ![2336, 128]⟩
abbrev S1024x128 : Shape := ⟨2, ![1024, 128]⟩
abbrev S1024x256 : Shape := ⟨2, ![1024, 256]⟩
abbrev S1x128 : Shape := ⟨2, ![1, 128]⟩
abbrev S128x1024 : Shape := ⟨2, ![128, 1024]⟩
abbrev S128x256 : Shape := ⟨2, ![128, 256]⟩
abbrev S128x128 : Shape := ⟨2, ![128, 128]⟩
abbrev S256x128 : Shape := ⟨2, ![256, 128]⟩

abbrev nBuf : Space → Nat
  | .hbm => 10
  | .vmem => 7
  | .smem => 1
  | _ => 0

abbrev bufTy : (tb : Table) → Fin (tcTables nBuf tb) → BufTy
  | .hbm, ⟨0, _⟩ => ⟨S4x512x1024, .fp8e4m3⟩
  | .hbm, ⟨1, _⟩ => ⟨S1024x2048, .fp8e4m3⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048x1024, .fp8e4m3⟩
  | .hbm, ⟨6, _⟩ => ⟨S1x2048, .f32⟩
  | .hbm, ⟨7, _⟩ => ⟨S1x2048, .f32⟩
  | .hbm, ⟨8, _⟩ => ⟨S1x1, .f32⟩
  | .hbm, ⟨9, _⟩ => ⟨S2048x1024, .f32⟩
  | .local _ .vmem, ⟨0, _⟩ => ⟨S2048x1024, .fp8e4m3⟩
  | .local _ .vmem, ⟨1, _⟩ => ⟨S1024x2048, .fp8e4m3⟩
  | .local _ .vmem, ⟨2, _⟩ => ⟨S1x2048, .f32⟩
  | .local _ .vmem, ⟨3, _⟩ => ⟨S1x2048, .f32⟩
  | .local _ .vmem, ⟨4, _⟩ => ⟨S2048x1024, .f32⟩
  | .local _ .vmem, ⟨5, _⟩ => ⟨S2x2336x128, .f32⟩
  | .local _ .vmem, ⟨6, _⟩ => ⟨S1x2048, .f32⟩
  | .local _ .smem, ⟨0, _⟩ => ⟨S1x1, .f32⟩
  | _, _ => ⟨S4x512x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_mult1 : BitVec 32 :=
  let c0_i32_77 : BitVec 32 := 0#32
  c0_i32_77
def k0_mult2 : BitVec 32 :=
  let c1024_i32 : BitVec 32 := 1024#32
  c1024_i32
@[reducible] def k0_t1_loop : Scf.Loop 32 :=
  let c0_i32_250 : BitVec 32 := 0#32
  let c7_i32 : BitVec 32 := 7#32
  let v491 : BitVec 32 := Scalar.addi c0_i32_250 c7_i32
  let c1_i32_251 : BitVec 32 := 1#32
  ⟨c0_i32_250, v491, c1_i32_251⟩
def k0_mult3 (k0_t1 : Fin k0_t1_loop.trips) : BitVec 32 :=
  let c0_i32_250 : BitVec 32 := 0#32
  let c1_i32_251 : BitVec 32 := 1#32
  let arg8 : BitVec 32 := Scf.iv c0_i32_250 c1_i32_251 k0_t1
  let c1_i32_301 : BitVec 32 := 1#32
  let v534 : BitVec 32 := Scalar.addi arg8 c1_i32_301
  let c128_i32 : BitVec 32 := 128#32
  let v536 : BitVec 32 := Scalar.muli v534 c128_i32
  v536
def k0_mult4 (k0_t1 : Fin k0_t1_loop.trips) : BitVec 32 :=
  let c1024_i32_304 : BitVec 32 := 1024#32
  let c0_i32_250 : BitVec 32 := 0#32
  let c1_i32_251 : BitVec 32 := 1#32
  let arg8 : BitVec 32 := Scf.iv c0_i32_250 c1_i32_251 k0_t1
  let c1_i32_301 : BitVec 32 := 1#32
  let v534 : BitVec 32 := Scalar.addi arg8 c1_i32_301
  let c128_i32_303 : BitVec 32 := 128#32
  let v538 : BitVec 32 := Scalar.muli v534 c128_i32_303
  let v539 : BitVec 32 := Scalar.addi c1024_i32_304 v538
  v539
def k0_off1 (k0_t1 : Fin k0_t1_loop.trips) : Fin 2 → Nat :=
  let c0_305 : Index := 0#32
  let c0_i32_250 : BitVec 32 := 0#32
  let c1_i32_251 : BitVec 32 := 1#32
  let arg8 : BitVec 32 := Scf.iv c0_i32_250 c1_i32_251 k0_t1
  let c1_i32_301 : BitVec 32 := 1#32
  let v534 : BitVec 32 := Scalar.addi arg8 c1_i32_301
  let c128_i32 : BitVec 32 := 128#32
  let v536 : BitVec 32 := Scalar.muli v534 c128_i32
  let v537 : BitVec 32 := v536
  let v541 : Index := Scalar.indexCast v537
  ![0, v541.toNat]
def k0_off2 (k0_t1 : Fin k0_t1_loop.trips) : Fin 2 → Nat :=
  let c0_306 : Index := 0#32
  let c1024_i32_304 : BitVec 32 := 1024#32
  let c0_i32_250 : BitVec 32 := 0#32
  let c1_i32_251 : BitVec 32 := 1#32
  let arg8 : BitVec 32 := Scf.iv c0_i32_250 c1_i32_251 k0_t1
  let c1_i32_301 : BitVec 32 := 1#32
  let v534 : BitVec 32 := Scalar.addi arg8 c1_i32_301
  let c128_i32_303 : BitVec 32 := 128#32
  let v538 : BitVec 32 := Scalar.muli v534 c128_i32_303
  let v539 : BitVec 32 := Scalar.addi c1024_i32_304 v538
  let v540 : BitVec 32 := v539
  let v543 : Index := Scalar.indexCast v540
  ![0, v543.toNat]
def k0_off3 (k0_t1 : Fin k0_t1_loop.trips) : Fin 2 → Nat :=
  let c0_307 : Index := 0#32
  let c0_i32_250 : BitVec 32 := 0#32
  let c1_i32_251 : BitVec 32 := 1#32
  let arg8 : BitVec 32 := Scf.iv c0_i32_250 c1_i32_251 k0_t1
  let c1_i32_301 : BitVec 32 := 1#32
  let v534 : BitVec 32 := Scalar.addi arg8 c1_i32_301
  let c128_i32 : BitVec 32 := 128#32
  let v536 : BitVec 32 := Scalar.muli v534 c128_i32
  let v537 : BitVec 32 := v536
  let v546 : Index := Scalar.indexCast v537
  ![0, v546.toNat]
def k0_off4 (k0_t1 : Fin k0_t1_loop.trips) : Fin 2 → Nat :=
  let c0_308 : Index := 0#32
  let c1024_i32_304 : BitVec 32 := 1024#32
  let c0_i32_250 : BitVec 32 := 0#32
  let c1_i32_251 : BitVec 32 := 1#32
  let arg8 : BitVec 32 := Scf.iv c0_i32_250 c1_i32_251 k0_t1
  let c1_i32_301 : BitVec 32 := 1#32
  let v534 : BitVec 32 := Scalar.addi arg8 c1_i32_301
  let c128_i32_303 : BitVec 32 := 128#32
  let v538 : BitVec 32 := Scalar.muli v534 c128_i32_303
  let v539 : BitVec 32 := Scalar.addi c1024_i32_304 v538
  let v540 : BitVec 32 := v539
  let v548 : Index := Scalar.indexCast v540
  ![0, v548.toNat]
def k0_off5 (k0_t1 : Fin k0_t1_loop.trips) : Fin 3 → Nat :=
  let c1_i32_302 : BitVec 32 := 1#32
  let c0_i32_250 : BitVec 32 := 0#32
  let c1_i32_251 : BitVec 32 := 1#32
  let arg8 : BitVec 32 := Scf.iv c0_i32_250 c1_i32_251 k0_t1
  let c2_i32 : BitVec 32 := 2#32
  let v533 : BitVec 32 := Scalar.remsi arg8 c2_i32
  let v535 : BitVec 32 := Scalar.subi c1_i32_302 v533
  let c0_i32_314 : BitVec 32 := 0#32
  let c0_i32_315 : BitVec 32 := 0#32
  ![v535.toNat, 0, 0]
def k0_mult5 (k0_t1 : Fin k0_t1_loop.trips) : BitVec 32 :=
  let c0_i32_250 : BitVec 32 := 0#32
  let c1_i32_251 : BitVec 32 := 1#32
  let arg8 : BitVec 32 := Scf.iv c0_i32_250 c1_i32_251 k0_t1
  let c128_i32_487 : BitVec 32 := 128#32
  let v940 : BitVec 32 := Scalar.muli arg8 c128_i32_487
  v940
def k0_off6 (k0_t1 : Fin k0_t1_loop.trips) : Fin 3 → Nat :=
  let c0_i32_250 : BitVec 32 := 0#32
  let c1_i32_251 : BitVec 32 := 1#32
  let arg8 : BitVec 32 := Scf.iv c0_i32_250 c1_i32_251 k0_t1
  let c2_i32 : BitVec 32 := 2#32
  let v533 : BitVec 32 := Scalar.remsi arg8 c2_i32
  let c0_i32_488 : BitVec 32 := 0#32
  let c0_i32_489 : BitVec 32 := 0#32
  ![v533.toNat, 0, 0]
def k0_off7 (k0_t1 : Fin k0_t1_loop.trips) : Fin 2 → Nat :=
  let c0_492 : Index := 0#32
  let c0_i32_250 : BitVec 32 := 0#32
  let c1_i32_251 : BitVec 32 := 1#32
  let arg8 : BitVec 32 := Scf.iv c0_i32_250 c1_i32_251 k0_t1
  let c128_i32_487 : BitVec 32 := 128#32
  let v940 : BitVec 32 := Scalar.muli arg8 c128_i32_487
  let v941 : BitVec 32 := v940
  let v945 : Index := Scalar.indexCast v941
  ![0, v945.toNat]
def k0_off8 (k0_t1 : Fin k0_t1_loop.trips) : Fin 2 → Nat :=
  let c256_497 : Index := 256#32
  let c0_i32_250 : BitVec 32 := 0#32
  let c1_i32_251 : BitVec 32 := 1#32
  let arg8 : BitVec 32 := Scf.iv c0_i32_250 c1_i32_251 k0_t1
  let c128_i32_487 : BitVec 32 := 128#32
  let v940 : BitVec 32 := Scalar.muli arg8 c128_i32_487
  let v941 : BitVec 32 := v940
  let v950 : Index := Scalar.indexCast v941
  ![256, v950.toNat]
def k0_off9 (k0_t1 : Fin k0_t1_loop.trips) : Fin 2 → Nat :=
  let c512_502 : Index := 512#32
  let c0_i32_250 : BitVec 32 := 0#32
  let c1_i32_251 : BitVec 32 := 1#32
  let arg8 : BitVec 32 := Scf.iv c0_i32_250 c1_i32_251 k0_t1
  let c128_i32_487 : BitVec 32 := 128#32
  let v940 : BitVec 32 := Scalar.muli arg8 c128_i32_487
  let v941 : BitVec 32 := v940
  let v955 : Index := Scalar.indexCast v941
  ![512, v955.toNat]
def k0_off10 (k0_t1 : Fin k0_t1_loop.trips) : Fin 2 → Nat :=
  let c768_507 : Index := 768#32
  let c0_i32_250 : BitVec 32 := 0#32
  let c1_i32_251 : BitVec 32 := 1#32
  let arg8 : BitVec 32 := Scf.iv c0_i32_250 c1_i32_251 k0_t1
  let c128_i32_487 : BitVec 32 := 128#32
  let v940 : BitVec 32 := Scalar.muli arg8 c128_i32_487
  let v941 : BitVec 32 := v940
  let v960 : Index := Scalar.indexCast v941
  ![768, v960.toNat]
def k0_off11 (k0_t1 : Fin k0_t1_loop.trips) : Fin 2 → Nat :=
  let c1024_512 : Index := 1024#32
  let c0_i32_250 : BitVec 32 := 0#32
  let c1_i32_251 : BitVec 32 := 1#32
  let arg8 : BitVec 32 := Scf.iv c0_i32_250 c1_i32_251 k0_t1
  let c128_i32_487 : BitVec 32 := 128#32
  let v940 : BitVec 32 := Scalar.muli arg8 c128_i32_487
  let v941 : BitVec 32 := v940
  let v965 : Index := Scalar.indexCast v941
  ![1024, v965.toNat]
def k0_off12 (k0_t1 : Fin k0_t1_loop.trips) : Fin 2 → Nat :=
  let c1280_517 : Index := 1280#32
  let c0_i32_250 : BitVec 32 := 0#32
  let c1_i32_251 : BitVec 32 := 1#32
  let arg8 : BitVec 32 := Scf.iv c0_i32_250 c1_i32_251 k0_t1
  let c128_i32_487 : BitVec 32 := 128#32
  let v940 : BitVec 32 := Scalar.muli arg8 c128_i32_487
  let v941 : BitVec 32 := v940
  let v970 : Index := Scalar.indexCast v941
  ![1280, v970.toNat]
def k0_off13 (k0_t1 : Fin k0_t1_loop.trips) : Fin 2 → Nat :=
  let c1536_522 : Index := 1536#32
  let c0_i32_250 : BitVec 32 := 0#32
  let c1_i32_251 : BitVec 32 := 1#32
  let arg8 : BitVec 32 := Scf.iv c0_i32_250 c1_i32_251 k0_t1
  let c128_i32_487 : BitVec 32 := 128#32
  let v940 : BitVec 32 := Scalar.muli arg8 c128_i32_487
  let v941 : BitVec 32 := v940
  let v975 : Index := Scalar.indexCast v941
  ![1536, v975.toNat]
def k0_off14 (k0_t1 : Fin k0_t1_loop.trips) : Fin 2 → Nat :=
  let c1792_527 : Index := 1792#32
  let c0_i32_250 : BitVec 32 := 0#32
  let c1_i32_251 : BitVec 32 := 1#32
  let arg8 : BitVec 32 := Scf.iv c0_i32_250 c1_i32_251 k0_t1
  let c128_i32_487 : BitVec 32 := 128#32
  let v940 : BitVec 32 := Scalar.muli arg8 c128_i32_487
  let v941 : BitVec 32 := v940
  let v980 : Index := Scalar.indexCast v941
  ![1792, v980.toNat]
def k0_mult6 : BitVec 32 :=
  let c896_i32 : BitVec 32 := 896#32
  c896_i32
abbrev stage0_0 : Fin 1 → Memref sig .tc .vmem S2048x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceMmIdeal.lean ====
abbrev S4x512x1024 : Shape := ⟨3, ![4, 512, 1024]⟩
abbrev S1024x2048 : Shape := ⟨2, ![1024, 2048]⟩
abbrev S2048 : Shape := ⟨1, ![2048]⟩
abbrev S_ : Shape := ⟨0, ![]⟩
abbrev S2048x1024 : Shape := ⟨2, ![2048, 1024]⟩
abbrev S1x2048 : Shape := ⟨2, ![1, 2048]⟩
abbrev S1x1 : Shape := ⟨2, ![1, 1]⟩
abbrev S2048x2048 : Shape := ⟨2, ![2048, 2048]⟩

abbrev nBuf : Space → Nat
  | .hbm => 10
  | .vmem => 5
  | .smem => 1
  | _ => 0

abbrev bufTy : (tb : Table) → Fin (tcTables nBuf tb) → BufTy
  | .hbm, ⟨0, _⟩ => ⟨S4x512x1024, .fp8e4m3⟩
  | .hbm, ⟨1, _⟩ => ⟨S1024x2048, .fp8e4m3⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048x1024, .fp8e4m3⟩
  | .hbm, ⟨6, _⟩ => ⟨S1x2048, .f32⟩
  | .hbm, ⟨7, _⟩ => ⟨S1x2048, .f32⟩
  | .hbm, ⟨8, _⟩ => ⟨S1x1, .f32⟩
  | .hbm, ⟨9, _⟩ => ⟨S2048x1024, .f32⟩
  | .local _ .vmem, ⟨0, _⟩ => ⟨S2048x1024, .fp8e4m3⟩
  | .local _ .vmem, ⟨1, _⟩ => ⟨S1024x2048, .fp8e4m3⟩
  | .local _ .vmem, ⟨2, _⟩ => ⟨S1x2048, .f32⟩
  | .local _ .vmem, ⟨3, _⟩ => ⟨S1x2048, .f32⟩
  | .local _ .vmem, ⟨4, _⟩ => ⟨S2048x1024, .f32⟩
  | .local _ .smem, ⟨0, _⟩ => ⟨S1x1, .f32⟩
  | _, _ => ⟨S4x512x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.OutKernel.lean ====
module

public import proofs.«01_k».proof.Defs
public import proofs.«01_k».proof.Proof.Gen.KernelOutIdeal.Value
public import Idealize.ShloMosaic.Lib.Pipeline.Value
public import Idealize.ShloMosaic.Lib.Pointwise
public import Idealize.ShloMosaic.Lib.Tactic

/-!
What `KernelOutIdeal` leaves in its result array: the output projection, read at an index. Eight trips each store 256 rows;
every trip's rows are the rows of one function of the row and the column, so the array is that function.
-/

@[expose] public section

set_option maxRecDepth 16384

noncomputable section

open Idealize.ShloMosaic Idealize.ShloMosaic.TcCoe Idealize.SL.Sem
open Idealize.ShloMosaic.Pipeline (Dat)

namespace Cert.KernelOutIdeal.OutValue

open Cert.KernelOutIdeal Cert.KernelOutIdeal.Gen

theorem hz : (![0, 0] : Fin 2 → Nat) = fun _ => 0 := funext fun a => by fin_cases a <;> rfl

/-- The output projection at row `y 0`, column `y 1`: the residual plus the scaled product plus the bias. -/
def outAt (x : Vec Ideal S2048x1024 .bf16) (q : Vec Ideal S2048x1024 .fp8e4m3) (w : Vec Ideal S1024x1024 .fp8e4m3)
    (sc b : Vec Ideal S1x1024 .f32) : Vec Ideal S2048x1024 .bf16 := fun y =>
  x y + ((0 + ∑ k : Fin 1024, q (ix2 (y 0) k) * w (ix2 k (y 1))) * sc (ix2 0 (y 1)) + b (ix2 0 (y 1)))

theorem pay1_apply (s : Elt Ideal .f32) (w : Vec Ideal S1x1024 .f32) (j : S1x1024.Idx) : k0_pay1 (F := Ideal) s w j = w j * s := by
  idx_vars j
  unfold k0_pay1
  pointwise

theorem pay2_apply (v12 : Vec Ideal S256x1024 .fp8e4m3) (v14 : Vec Ideal S1024x1024 .fp8e4m3) (v16 : Vec Ideal S1x1024 .f32)
    (v19 : Vec Ideal S1x1024 .f32) (v24 : Vec Ideal S256x1024 .bf16) (j : S256x1024.Idx) :
    k0_pay2 (F := Ideal) v12 v14 v16 v19 v24 j
      = v24 j + ((0 + ∑ k : Fin 1024, v12 (ix2 (j 0) k) * v14 (ix2 k (j 1))) * v16 (ix2 0 (j 1)) + v19 (ix2 0 (j 1))) := by
  idx_vars j
  unfold k0_pay2
  pointwise

/-- A block whose row `z0` is row `r` of the operands leaves row `r` of the projection in its row `z0`. -/
theorem pay2_row (x : Vec Ideal S2048x1024 .bf16) (q : Vec Ideal S2048x1024 .fp8e4m3) (v12 : Vec Ideal S256x1024 .fp8e4m3)
    (w : Vec Ideal S1024x1024 .fp8e4m3) (sc b : Vec Ideal S1x1024 .f32) (v24 : Vec Ideal S256x1024 .bf16) (r : Fin 2048) (z0 : Fin 256)
    (z1 : Fin 1024) (hx : v24 (ix2 z0 z1) = x (ix2 r z1)) (hq : ∀ k : Fin 1024, v12 (ix2 z0 k) = q (ix2 r k)) :
    k0_pay2 (F := Ideal) v12 w sc b v24 (ix2 z0 z1) = outAt x q w sc b (ix2 r z1) := by
  refine (pay2_apply _ _ _ _ _ _).trans ?_
  show v24 (ix2 z0 z1) + ((0 + ∑ k : Fin 1024, v12 (ix2 z0 k) * w (ix2 k z1)) * sc (ix2 0 z1) + b (ix2 0 z1))
    = x (ix2 r z1) + ((0 + ∑ k : Fin 1024, q (ix2 r k) * w (ix2 k z1)) * sc (ix2 0 z1) + b (ix2 0 z1))
  rw [hx, Finset.sum_congr rfl fun k _ => congrArg (· * w (ix2 k z1)) (hq k)]

/-- Trip `k` starts at row `256 k`. -/
theorem row_eq : ∀ k : Fin k0_t1_loop.trips, BitVec.toNat (Scalar.indexCast (Scalar.muli (Scf.iv 0#32 1#32 k.val) 256#32)) = 256 * k.val := by
  decide +kernel

theorem row_lt (o : ℕ) (inb : ∀ a, (![o, 0] : Fin 2 → Nat) a + S256x1024.size a ≤ S2048x1024.size a) (z0 : Fin 256) :
    o + z0.val < 2048 := by
  have := inb 0
  have h : o + 256 ≤ 2048 := this
  omega

/-- Row `z0` of the block that starts at row `o` is row `o + z0` of the array. -/
theorem emb_rows (o : ℕ) (inb : ∀ a, (![o, 0] : Fin 2 → Nat) a + S256x1024.size a ≤ S2048x1024.size a) (z0 : Fin 256) (z1 : Fin 1024) :
    (Rect.unit (s := S2048x1024) ![o, 0] S256x1024.size inb).emb (ix2 z0 z1) = ix2 ⟨o + z0.val, row_lt o inb z0⟩ z1 := by
  funext a
  apply Fin.ext
  match a with
  | ⟨0, _⟩ => show o + 1 * z0.val = o + z0.val; rw [Nat.one_mul]
  | ⟨1, _⟩ => show 0 + 1 * z1.val = z1.val; rw [Nat.one_mul, Nat.zero_add]

section
variable {F : FTy → Type} [FloatOps F]

/-- One trip stores one block of 256 rows, at row `256 k`. -/
theorem tripL_eq (𝒱 : Variants) (c : Dev nD) (bd : Option 𝒱.V) (a0 : Memref sig .tc .vmem S2048x1024 .bf16) (h0 : a0.IsWhole) (a1 : Memref sig .tc .vmem S2048x1024 .fp8e4m3) (h1 : a1.IsWhole) (a2 : Memref sig .tc .vmem S1024x1024 .fp8e4m3) (h2 : a2.IsWhole) (a3 : Memref sig .tc .vmem S1x1024 .f32) (h3 : a3.IsWhole) (a4 : Memref sig .tc .vmem S1x1024 .f32) (h4 : a4.IsWhole) (a5 : Memref sig .tc .smem S1x1 .f32) (h5 : a5.IsWhole) (a6 : Memref sig .tc .vmem S2048x1024 .bf16) (h6 : a6.IsWhole) (a7 : Memref sig .tc .vmem S1x1024 .f32) (h7 : a7.IsWhole) (X0 : BufTy.Contents (Elt F) a0.view.ty) (X1 : BufTy.Contents (Elt F) a1.view.ty) (X2 : BufTy.Contents (Elt F) a2.view.ty) (X4 : BufTy.Contents (Elt F) a4.view.ty) (X7 : BufTy.Contents (Elt F) a7.view.ty) (k : Fin k0_t1_loop.trips) :
    ∃ o : ℕ, o = 256 * k.val ∧ ∃ inb : ∀ a, (![o, 0] : Fin 2 → Nat) a + S256x1024.size a ≤ S2048x1024.size a,
    tripL_k0_t1 (F := F) 𝒱 c bd a0 h0 a1 h1 a2 h2 a3 h3 a4 h4 a5 h5 a6 h6 a7 h7 X0 X1 X2 X4 X7 k =
      [⟨Rect.unit (s := S2048x1024) ![o, 0] S256x1024.size inb,
        k0_pay2 (View.ld (a1.view.read (Elt F) X1) (Rect.unit (s := S2048x1024) ![o, 0] S256x1024.size inb)) (a2.view.read (Elt F) X2)
          (a7.view.read (Elt F) X7) (a4.view.read (Elt F) X4)
          (View.ld (a0.view.read (Elt F) X0) (Rect.unit (s := S2048x1024) ![o, 0] S256x1024.size inb))⟩] := by
  refine ⟨_, row_eq k, k0_off1_inb k, ?_⟩
  unfold tripL_k0_t1 trip_k0_t1
  dsimp only
  sl_unfold_words
  simp only [View.readAt_eq_ld]
  rw [View.ld_unit_zero (S := S1024x1024) hz, View.ld_unit_zero (S := S1x1024) hz, View.ld_unit_zero (S := S1x1024) hz]

/-- Reading that row of the block reads that row of the array. -/
theorem ld_rows {e : EltTy} (X : Vec F S2048x1024 e) (o : ℕ) (inb : ∀ a, (![o, 0] : Fin 2 → Nat) a + S256x1024.size a ≤ S2048x1024.size a)
    (z0 : Fin 256) (z1 : Fin 1024) :
    View.ld X (Rect.unit (s := S2048x1024) ![o, 0] S256x1024.size inb) (ix2 z0 z1) = X (ix2 ⟨o + z0.val, row_lt o inb z0⟩ z1) :=
  congrArg X (emb_rows o inb z0 z1)

end

/-- Every piece the trips before `n` store is the block of `outAt` its rectangle names. -/
theorem pb_agree (𝒱 : Variants) (c : Dev nD) (bd : Option 𝒱.V) (a0 : Memref sig .tc .vmem S2048x1024 .bf16) (h0 : a0.IsWhole) (a1 : Memref sig .tc .vmem S2048x1024 .fp8e4m3) (h1 : a1.IsWhole) (a2 : Memref sig .tc .vmem S1024x1024 .fp8e4m3) (h2 : a2.IsWhole) (a3 : Memref sig .tc .vmem S1x1024 .f32) (h3 : a3.IsWhole) (a4 : Memref sig .tc .vmem S1x1024 .f32) (h4 : a4.IsWhole) (a5 : Memref sig .tc .smem S1x1 .f32) (h5 : a5.IsWhole) (a6 : Memref sig .tc .vmem S2048x1024 .bf16) (h6 : a6.IsWhole) (a7 : Memref sig .tc .vmem S1x1024 .f32) (h7 : a7.IsWhole) (X0 : BufTy.Contents (Elt Ideal) a0.view.ty) (X1 : BufTy.Contents (Elt Ideal) a1.view.ty) (X2 : BufTy.Contents (Elt Ideal) a2.view.ty) (X4 : BufTy.Contents (Elt Ideal) a4.view.ty) (X7 : BufTy.Contents (Elt Ideal) a7.view.ty) :
    ∀ n : ℕ, ∀ p ∈ pb_k0_t1 (F := Ideal) 𝒱 c bd a0 h0 a1 h1 a2 h2 a3 h3 a4 h4 a5 h5 a6 h6 a7 h7 X0 X1 X2 X4 X7 n, ∀ z : p.1.shape.Idx,
      p.2 z = outAt (a0.view.read (Elt Ideal) X0) (a1.view.read (Elt Ideal) X1) (a2.view.read (Elt Ideal) X2) (a7.view.read (Elt Ideal) X7) (a4.view.read (Elt Ideal) X4) (p.1.emb z) := by
  intro n
  induction n with
  | zero => intro p hp; exact absurd hp (by rw [pb_k0_t1.eq_1]; simp)
  | succ n ih =>
    intro p hp
    by_cases hn : n < k0_t1_loop.trips
    · rw [pb_k0_t1_succ 𝒱 c bd a0 h0 a1 h1 a2 h2 a3 h3 a4 h4 a5 h5 a6 h6 a7 h7 X0 X1 X2 X4 X7 ⟨n, hn⟩] at hp
      obtain ⟨o, ho, inb, e⟩ := tripL_eq (F := Ideal) 𝒱 c bd a0 h0 a1 h1 a2 h2 a3 h3 a4 h4 a5 h5 a6 h6 a7 h7 X0 X1 X2 X4 X7 ⟨n, hn⟩
      rw [e] at hp
      rcases List.mem_append.mp hp with hp | hp
      · rw [List.mem_singleton] at hp
        subst hp
        intro z
        show k0_pay2 (F := Ideal) _ _ _ _ _ z = _
        idx_vars z
        rw [emb_rows]
        exact pay2_row _ _ _ _ _ _ _ _ _ z1 (ld_rows _ o inb z0 z1) fun k => ld_rows _ o inb z0 k
      · exact ih p hp
    · rw [pb_k0_t1.eq_2] at hp
      unfold pb_k0_t1Step at hp
      rw [dif_neg hn] at hp
      exact ih p hp

/-- The scale row the body stores: every column's weight scale times the one scale. -/
theorem scale_row (a5 : Memref sig .tc .smem S1x1 .f32) (h5 : a5.IsWhole) (a3 : Memref sig .tc .vmem S1x1024 .f32) (h3 : a3.IsWhole)
    (a7 : Memref sig .tc .vmem S1x1024 .f32) (f : BufTy.Contents (Elt Ideal) a7.view.ty) (x3 : Vec Ideal S1x1024 .f32) (x5 : Vec Ideal S1x1 .f32) (z : S1x1.Idx) :
    a7.view.read (Elt Ideal) (a7.view.writes (Elt Ideal) f
      [⟨Rect.unit (s := S1x1024) ![0, 0] S1x1024.size inb_S1x1024_S1x1024_0_0,
        k0_pay1 (F := Ideal) (View.readAt (Elt Ideal) a5.view (Rect.unit (s := S1x1) ![0, 0] S1x1.size inb_S1x1_S1x1_0_0).toLoadRect (h5.unread x5) z)
          (View.readAt (Elt Ideal) a3.view (Rect.unit (s := S1x1024) ![0, 0] S1x1024.size inb_S1x1024_S1x1024_0_0).toLoadRect (h3.unread x3))⟩])
      = fun j => x3 j * x5 (ix2 0 0) := by
  rw [View.read_writes_eq_canon]
  rotate_left
  · intro y
    exact ⟨_, List.mem_singleton_self _, View.mem_set_unit_zero (S := S1x1024) hz inb_S1x1024_S1x1024_0_0 y⟩
  rw [View.canon_unit_zero (S := S1x1024) hz]
  rw [View.readAt_eq_ld, View.readAt_eq_ld, h3.read_unread, h5.read_unread, View.ld_unit_zero (S := S1x1024) hz, View.ld_unit_zero (S := S1x1) hz]
  funext j
  refine (pay1_apply _ _ j).trans (congrArg (fun i => x3 j * x5 i) ?_)
  funext a
  match a with
  | ⟨0, h⟩ => exact Subsingleton.elim (α := Fin 1) _ _
  | ⟨1, h⟩ => exact Subsingleton.elim (α := Fin 1) _ _

/-- So the staging buffer ends holding `outAt`, with the scale row times the scale. -/
theorem out_A (c : Dev nD) (a0 : Memref sig .tc .vmem S2048x1024 .bf16) (h0 : a0.IsWhole) (a1 : Memref sig .tc .vmem S2048x1024 .fp8e4m3) (h1 : a1.IsWhole) (a2 : Memref sig .tc .vmem S1024x1024 .fp8e4m3) (h2 : a2.IsWhole) (a3 : Memref sig .tc .vmem S1x1024 .f32) (h3 : a3.IsWhole) (a4 : Memref sig .tc .vmem S1x1024 .f32) (h4 : a4.IsWhole) (a5 : Memref sig .tc .smem S1x1 .f32) (h5 : a5.IsWhole) (a6 : Memref sig .tc .vmem S2048x1024 .bf16) (h6 : a6.IsWhole) (a7 : Memref sig .tc .vmem S1x1024 .f32) (h7 : a7.IsWhole) (x0 : Vec Ideal S2048x1024 .bf16) (x1 : Vec Ideal S2048x1024 .fp8e4m3) (x2 : Vec Ideal S1024x1024 .fp8e4m3) (x3 : Vec Ideal S1x1024 .f32) (x4 : Vec Ideal S1x1024 .f32) (x5 : Vec Ideal S1x1 .f32) :
    out0_A_6 (F := Ideal) c a0 h0 a1 h1 a2 h2 a3 h3 a4 h4 a5 h5 a6 h6 a7 h7 x0 x1 x2 x3 x4 x5 = outAt x0 x1 x2 (fun j => x3 j * x5 (ix2 0 0)) x4 := by
  funext y
  unfold out0_A_6
  rw [View.read_writes_eq_canon _ _ _ (cover0_A_6 c a0 h0 a1 h1 a2 h2 a3 h3 a4 h4 a5 h5 a6 h6 a7 h7 x0 x1 x2 x3 x4 x5)]
  have hcov := cover0_A_6 (F := Ideal) c a0 h0 a1 h1 a2 h2 a3 h3 a4 h4 a5 h5 a6 h6 a7 h7 x0 x1 x2 x3 x4 x5 y
  revert hcov
  unfold kernelRun0_A
  dsimp only
  sl_unfold_words
  intro hcov
  rw [View.canon_apply_of_pieces _ _ (pb_agree Variants.none c none a0 h0 a1 h1 a2 h2 a3 h3 a4 h4 a5 h5 a6 h6 a7 h7 _ _ _ _ _ _) y hcov]
  rw [h0.read_unread, h1.read_unread, h2.read_unread, h4.read_unread]
  exact congrArg (fun sc => outAt x0 x1 x2 sc x4 y) (scale_row a5 h5 a3 h3 a7 _ x3 x5 _)

/-! ## The result array after the run -/

section
variable {F : FTy → Type} [FloatOps F]
variable (m : (ℓ : Loc nD τ sig) → Buf (Elt F) ℓ)

/-- Window 0's one block is its whole array. -/
theorem iblk_0 (c : Dev nD) (t : Fin cfg0.N) : iblk m c 0 t = V m c main_v0 := by
  have hz' : (fun a => win0_0.index t a * main_v0.ty.shape.size a) = fun _ => 0 := funext fun a => by
    obtain rfl : t = t0_0 := fin_N0 t
    fin_cases a <;> decide
  exact Memref.read_access_unit_zero (Elt F) main_v0 hz' (fun a => by rw [congrFun hz' a]; simp) (V m c main_v0)

/-- Window 1's one block is its whole array. -/
theorem iblk_1 (c : Dev nD) (t : Fin cfg0.N) : iblk m c 1 t = V m c main_v1 := by
  have hz' : (fun a => win0_1.index t a * main_v1.ty.shape.size a) = fun _ => 0 := funext fun a => by
    obtain rfl : t = t0_0 := fin_N0 t
    fin_cases a <;> decide
  exact Memref.read_access_unit_zero (Elt F) main_v1 hz' (fun a => by rw [congrFun hz' a]; simp) (V m c main_v1)

/-- Window 2's one block is its whole array. -/
theorem iblk_2 (c : Dev nD) (t : Fin cfg0.N) : iblk m c 2 t = V m c main_arg2 := by
  have hz' : (fun a => win0_2.index t a * main_arg2.ty.shape.size a) = fun _ => 0 := funext fun a => by
    obtain rfl : t = t0_0 := fin_N0 t
    fin_cases a <;> decide
  exact Memref.read_access_unit_zero (Elt F) main_arg2 hz' (fun a => by rw [congrFun hz' a]; simp) (V m c main_arg2)

/-- Window 3's one block is its whole array. -/
theorem iblk_3 (c : Dev nD) (t : Fin cfg0.N) : iblk m c 3 t = V m c main_v2 := by
  have hz' : (fun a => win0_3.index t a * main_v2.ty.shape.size a) = fun _ => 0 := funext fun a => by
    obtain rfl : t = t0_0 := fin_N0 t
    fin_cases a <;> decide
  exact Memref.read_access_unit_zero (Elt F) main_v2 hz' (fun a => by rw [congrFun hz' a]; simp) (V m c main_v2)

/-- Window 4's one block is its whole array. -/
theorem iblk_4 (c : Dev nD) (t : Fin cfg0.N) : iblk m c 4 t = V m c main_v3 := by
  have hz' : (fun a => win0_4.index t a * main_v3.ty.shape.size a) = fun _ => 0 := funext fun a => by
    obtain rfl : t = t0_0 := fin_N0 t
    fin_cases a <;> decide
  exact Memref.read_access_unit_zero (Elt F) main_v3 hz' (fun a => by rw [congrFun hz' a]; simp) (V m c main_v3)

/-- Window 5's one block is its whole array. -/
theorem iblk_5 (c : Dev nD) (t : Fin cfg0.N) : iblk m c 5 t = V m c main_v4 := by
  have hz' : (fun a => win0_5.index t a * main_v4.ty.shape.size a) = fun _ => 0 := funext fun a => by
    obtain rfl : t = t0_0 := fin_N0 t
    fin_cases a <;> decide
  exact Memref.read_access_unit_zero (Elt F) main_v4 hz' (fun a => by rw [congrFun hz' a]; simp) (V m c main_v4)

end

variable (m : (ℓ : Loc nD τ sig) → Buf (Elt Ideal) ℓ) (ρ : Dev nD → PrngReg)

/-- The projection of the arguments as launched. -/
def result (c : Dev nD) : Buf (Elt Ideal) ((c.tc : Thread nD τ).loc main_v5) :=
  outAt (shapeCast S2048x1024 (m ((c.tc : Thread nD τ).loc main_arg0)) shapeCasts_S4x512x1024_S2048x1024)
    (shapeCast S2048x1024 (m ((c.tc : Thread nD τ).loc main_arg1)) shapeCasts_S4x512x1024_S2048x1024)
    (m ((c.tc : Thread nD τ).loc main_arg2))
    (fun j => (shapeCast S1x1024 (m ((c.tc : Thread nD τ).loc main_arg3)) shapeCasts_S1024_S1x1024 : Vec Ideal S1x1024 .f32) j
      * (shapeCast S1x1 (m ((c.tc : Thread nD τ).loc main_arg5)) shapeCasts_S_S1x1 : Vec Ideal S1x1 .f32) (ix2 0 0))
    (shapeCast S1x1024 (m ((c.tc : Thread nD τ).loc main_arg4)) shapeCasts_S1024_S1x1024)

/-- The result array, whose one block is the whole array, ends holding it. -/
theorem final (c : Dev nD) : (dats m 0 c).arrAt 6 cfg0.N = result m c := by
  have hz' : (fun a => win0_6.index t0_0 a * main_v5.ty.shape.size a) = fun _ => 0 := funext fun a => by fin_cases a <;> decide
  have hr : ((cfg0.win 6).blk t0_0).view.read (Elt Ideal) ((dats m 0 c).arrAt 6 cfg0.N) = (dats m 0 c).arrAt 6 cfg0.N :=
    Memref.read_access_unit_zero (Elt Ideal) main_v5 hz' (fun a => by rw [congrFun hz' a]; simp) _
  refine hr.symm.trans ((Value.blocks6 m c t0_0 (by decide)).trans ((Value.flushed6_A m c t0_0).trans ?_))
  rw [out_A, iblk_0, iblk_1, iblk_2, iblk_3, iblk_4, iblk_5]
  rfl

/-- The run: the result array holds the projection, the arguments are unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final m c), (h c).2⟩) (Value.run_blocks (F := Ideal) m ρ)

end Cert.KernelOutIdeal.OutValue
end
-- ==== Proof.OutReference.lean ====
module

public import proofs.«01_k».proof.Proof.OutKernel
public import proofs.«01_k».proof.Proof.Gen.ReferenceOutIdeal.Value

/-!
What `ReferenceOutIdeal` leaves in its result array: the same function of the row and the column (`OutValue.outAt`), its scale
row multiplied in the other order.
-/

@[expose] public section

set_option maxRecDepth 16384

noncomputable section

open Idealize.ShloMosaic Idealize.ShloMosaic.TcCoe Idealize.SL.Sem
open Idealize.ShloMosaic.Pipeline (Dat)

namespace Cert.ReferenceOutIdeal.OutValue

open Cert.ReferenceOutIdeal Cert.ReferenceOutIdeal.Gen

theorem hz : (![0, 0] : Fin 2 → Nat) = fun _ => 0 := funext fun a => by fin_cases a <;> rfl

theorem pay1_apply (v0 : Vec Ideal S2048x1024 .fp8e4m3) (v2 : Vec Ideal S1024x1024 .fp8e4m3) (v4 : Elt Ideal .f32)
    (v5 v11 : Vec Ideal S1x1024 .f32) (v15 : Vec Ideal S2048x1024 .bf16) (j : S2048x1024.Idx) :
    k0_pay1 (F := Ideal) v0 v2 v4 v5 v11 v15 j
      = v15 j + ((0 + ∑ k : Fin 1024, v0 (ix2 (j 0) k) * v2 (ix2 k (j 1))) * (v4 * v5 (ix2 0 (j 1))) + v11 (ix2 0 (j 1))) := by
  idx_vars j
  unfold k0_pay1
  pointwise

/-- Reading the one scale. -/
theorem ld_one (x5 : Vec Ideal S1x1 .f32) (z : S1x1.Idx) :
    View.ld x5 (Rect.unit (s := S1x1) ![0, 0] S1x1.size inb_S1x1_S1x1_0_0) z = x5 (ix2 0 0) := by
  refine congrArg x5 ?_
  funext a
  match a with
  | ⟨0, h⟩ => exact Subsingleton.elim (α := Fin 1) _ _
  | ⟨1, h⟩ => exact Subsingleton.elim (α := Fin 1) _ _

/-- The one store's payload, of whole-buffer loads. -/
theorem out_A (c : Dev nD) (a0 : Memref sig .tc .vmem S2048x1024 .bf16) (h0 : a0.IsWhole) (a1 : Memref sig .tc .vmem S2048x1024 .fp8e4m3) (h1 : a1.IsWhole) (a2 : Memref sig .tc .vmem S1024x1024 .fp8e4m3) (h2 : a2.IsWhole) (a3 : Memref sig .tc .vmem S1x1024 .f32) (h3 : a3.IsWhole) (a4 : Memref sig .tc .vmem S1x1024 .f32) (h4 : a4.IsWhole) (a5 : Memref sig .tc .smem S1x1 .f32) (h5 : a5.IsWhole) (a6 : Memref sig .tc .vmem S2048x1024 .bf16) (h6 : a6.IsWhole) (x0 : Vec Ideal S2048x1024 .bf16) (x1 : Vec Ideal S2048x1024 .fp8e4m3) (x2 : Vec Ideal S1024x1024 .fp8e4m3) (x3 : Vec Ideal S1x1024 .f32) (x4 : Vec Ideal S1x1024 .f32) (x5 : Vec Ideal S1x1 .f32) :
    out0_A_6 (F := Ideal) c a0 h0 a1 h1 a2 h2 a3 h3 a4 h4 a5 h5 a6 h6 x0 x1 x2 x3 x4 x5
      = Cert.KernelOutIdeal.OutValue.outAt x0 x1 x2 (fun j => x5 (ix2 0 0) * x3 j) x4 := by
  unfold out0_A_6
  rw [View.read_writes_eq_canon _ _ _ (cover0_A_6 c a0 h0 a1 h1 a2 h2 a3 h3 a4 h4 a5 h5 a6 h6 x0 x1 x2 x3 x4 x5)]
  unfold kernelRun0_A
  dsimp only
  sl_unfold_words
  rw [View.canon_unit_zero (S := S2048x1024) hz]
  simp only [View.readAt_eq_ld, h0.read_unread, h1.read_unread, h2.read_unread, h3.read_unread, h4.read_unread, h5.read_unread,
    View.ld_unit_zero (S := S2048x1024) hz, View.ld_unit_zero (S := S1024x1024) hz, View.ld_unit_zero (S := S1x1024) hz, View.ld_unit_zero (S := S1x1) hz]
  funext j
  refine (pay1_apply _ _ _ _ _ _ j).trans ?_
  rw [ld_one]
  rfl

/-! ## The result array after the run -/

section
variable {F : FTy → Type} [FloatOps F]
variable (m : (ℓ : Loc nD τ sig) → Buf (Elt F) ℓ)

/-- Window 0's one block is its whole array. -/
theorem iblk_0 (c : Dev nD) (t : Fin cfg0.N) : iblk m c 0 t = V m c main_v0 := by
  have hz' : (fun a => win0_0.index t a * main_v0.ty.shape.size a) = fun _ => 0 := funext fun a => by
    obtain rfl : t = t0_0 := fin_N0 t
    fin_cases a <;> decide
  exact Memref.read_access_unit_zero (Elt F) main_v0 hz' (fun a => by rw [congrFun hz' a]; simp) (V m c main_v0)

/-- Window 1's one block is its whole array. -/
theorem iblk_1 (c : Dev nD) (t : Fin cfg0.N) : iblk m c 1 t = V m c main_v1 := by
  have hz' : (fun a => win0_1.index t a * main_v1.ty.shape.size a) = fun _ => 0 := funext fun a => by
    obtain rfl : t = t0_0 := fin_N0 t
    fin_cases a <;> decide
  exact Memref.read_access_unit_zero (Elt F) main_v1 hz' (fun a => by rw [congrFun hz' a]; simp) (V m c main_v1)

/-- Window 2's one block is its whole array. -/
theorem iblk_2 (c : Dev nD) (t : Fin cfg0.N) : iblk m c 2 t = V m c main_arg2 := by
  have hz' : (fun a => win0_2.index t a * main_arg2.ty.shape.size a) = fun _ => 0 := funext fun a => by
    obtain rfl : t = t0_0 := fin_N0 t
    fin_cases a <;> decide
  exact Memref.read_access_unit_zero (Elt F) main_arg2 hz' (fun a => by rw [congrFun hz' a]; simp) (V m c main_arg2)

/-- Window 3's one block is its whole array. -/
theorem iblk_3 (c : Dev nD) (t : Fin cfg0.N) : iblk m c 3 t = V m c main_v2 := by
  have hz' : (fun a => win0_3.index t a * main_v2.ty.shape.size a) = fun _ => 0 := funext fun a => by
    obtain rfl : t = t0_0 := fin_N0 t
    fin_cases a <;> decide
  exact Memref.read_access_unit_zero (Elt F) main_v2 hz' (fun a => by rw [congrFun hz' a]; simp) (V m c main_v2)

/-- Window 4's one block is its whole array. -/
theorem iblk_4 (c : Dev nD) (t : Fin cfg0.N) : iblk m c 4 t = V m c main_v3 := by
  have hz' : (fun a => win0_4.index t a * main_v3.ty.shape.size a) = fun _ => 0 := funext fun a => by
    obtain rfl : t = t0_0 := fin_N0 t
    fin_cases a <;> decide
  exact Memref.read_access_unit_zero (Elt F) main_v3 hz' (fun a => by rw [congrFun hz' a]; simp) (V m c main_v3)

/-- Window 5's one block is its whole array. -/
theorem iblk_5 (c : Dev nD) (t : Fin cfg0.N) : iblk m c 5 t = V m c main_v4 := by
  have hz' : (fun a => win0_5.index t a * main_v4.ty.shape.size a) = fun _ => 0 := funext fun a => by
    obtain rfl : t = t0_0 := fin_N0 t
    fin_cases a <;> decide
  exact Memref.read_access_unit_zero (Elt F) main_v4 hz' (fun a => by rw [congrFun hz' a]; simp) (V m c main_v4)

end

variable (m : (ℓ : Loc nD τ sig) → Buf (Elt Ideal) ℓ) (ρ : Dev nD → PrngReg)

/-- The projection of the arguments as launched. -/
def result (c : Dev nD) : Buf (Elt Ideal) ((c.tc : Thread nD τ).loc main_v5) :=
  Cert.KernelOutIdeal.OutValue.outAt (shapeCast S2048x1024 (m ((c.tc : Thread nD τ).loc main_arg0)) shapeCasts_S4x512x1024_S2048x1024)
    (shapeCast S2048x1024 (m ((c.tc : Thread nD τ).loc main_arg1)) shapeCasts_S4x512x1024_S2048x1024)
    (m ((c.tc : Thread nD τ).loc main_arg2))
    (fun j => (shapeCast S1x1 (m ((c.tc : Thread nD τ).loc main_arg5)) shapeCasts_S_S1x1 : Vec Ideal S1x1 .f32) (ix2 0 0)
      * (shapeCast S1x1024 (m ((c.tc : Thread nD τ).loc main_arg3)) shapeCasts_S1024_S1x1024 : Vec Ideal S1x1024 .f32) j)
    (shapeCast S1x1024 (m ((c.tc : Thread nD τ).loc main_arg4)) shapeCasts_S1024_S1x1024)

/-- The result array, whose one block is the whole array, ends holding it. -/
theorem final (c : Dev nD) : (dats m 0 c).arrAt 6 cfg0.N = result m c := by
  have hz' : (fun a => win0_6.index t0_0 a * main_v5.ty.shape.size a) = fun _ => 0 := funext fun a => by fin_cases a <;> decide
  have hr : ((cfg0.win 6).blk t0_0).view.read (Elt Ideal) ((dats m 0 c).arrAt 6 cfg0.N) = (dats m 0 c).arrAt 6 cfg0.N :=
    Memref.read_access_unit_zero (Elt Ideal) main_v5 hz' (fun a => by rw [congrFun hz' a]; simp) _
  refine hr.symm.trans ((Value.blocks6 m c t0_0 (by decide)).trans ((Value.flushed6_A m c t0_0).trans ?_))
  rw [out_A, iblk_0, iblk_1, iblk_2, iblk_3, iblk_4, iblk_5]
  rfl

/-- The run: the result array holds the projection, the arguments are unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final m c), (h c).2⟩) (Value.run_blocks (F := Ideal) m ρ)

end Cert.ReferenceOutIdeal.OutValue
end
-- ==== Proof.LnKernel.lean ====
module

public import proofs.«01_k».proof.Defs
public import proofs.«01_k».proof.Proof.Gen.KernelLnIdeal.Value
public import Idealize.ShloMosaic.Lib.Pipeline.Value
public import Idealize.ShloMosaic.Lib.Pointwise
public import Idealize.ShloMosaic.Lib.Ring
public import Idealize.ShloMosaic.Lib.Tactic

/-!
What `KernelLnIdeal` leaves in its two result arrays, read at an index: the quantised normalised row, and the largest magnitude of
the normalised row. Sixteen trips each treat 128 rows. A trip keeps, per row and lane, the largest magnitude over the eight blocks
of 128 columns; after the trips the largest of the 128 lanes is taken.
-/

@[expose] public section

set_option maxRecDepth 16384

noncomputable section

open Idealize.ShloMosaic Idealize.ShloMosaic.TcCoe Idealize.SL.Sem
open Idealize.ShloMosaic.Pipeline (Dat)

namespace Cert.KernelLnIdeal.LnValue

open Cert.KernelLnIdeal Cert.KernelLnIdeal.Gen

theorem hz : (![0, 0] : Fin 2 → Nat) = fun _ => 0 := funext fun a => by fin_cases a <;> rfl

/-! ## One row -/

/-- The mean of a row. -/
def mean (x : Fin 1024 → Elt Ideal .f32) : Elt Ideal .f32 := Ideal.div (∑ k, x k) (Ideal.ofBits FTy.f32 0x44800000#32)

/-- A row less its mean, over the root of its variance plus a small number, scaled and shifted. -/
def lnRow (x g b : Fin 1024 → Elt Ideal .f32) (k : Fin 1024) : Elt Ideal .f32 :=
  (x k - mean x) * Ideal.rsqrt (mean (fun i => (x i - mean x) * (x i - mean x)) + Ideal.ofBits FTy.f32 0x3727C5AC#32) * g k + b k

/-- The quantiser: times the inverse scale, clipped to the format's range. -/
def quant (s n : Elt Ideal .f32) : Elt Ideal .f32 :=
  min (Ideal.ofBits FTy.f32 0x43E00000#32) (max (Ideal.ofBits FTy.f32 0xC3E00000#32) (n * Ideal.div 1 s))

/-- The largest magnitude of a row. -/
def amaxRow (n : Fin 1024 → Elt Ideal .f32) : Elt Ideal .f32 :=
  Finset.fold max (Ideal.ofBits FTy.f32 0xFF800000#32) (fun k => FloatOps.absf (F := Ideal) (φ := .f32) (n k)) Finset.univ

/-- Lane `l`'s largest magnitude over the eight blocks of 128 columns. -/
def lane8 (n : Fin 1024 → Elt Ideal .f32) (l : Fin 128) : Elt Ideal .f32 :=
  let a : Fin 1024 → Elt Ideal .f32 := fun k => FloatOps.absf (F := Ideal) (φ := .f32) (n k)
  max (max (max (max (max (max (max (a ⟨l.val, by omega⟩) (a ⟨128 + l.val, by omega⟩)) (a ⟨256 + l.val, by omega⟩))
    (a ⟨384 + l.val, by omega⟩)) (a ⟨512 + l.val, by omega⟩)) (a ⟨640 + l.val, by omega⟩)) (a ⟨768 + l.val, by omega⟩)) (a ⟨896 + l.val, by omega⟩)

/-- The largest over the lanes is the largest over the columns. -/
theorem fold_lane8 (n : Fin 1024 → Elt Ideal .f32) :
    Finset.fold max (Ideal.ofBits FTy.f32 0xFF800000#32) (lane8 n) Finset.univ = amaxRow n := by
  unfold amaxRow
  apply le_antisymm
  · rw [Finset.fold_max_le]
    have hb : ∀ k : Fin 1024, FloatOps.absf (F := Ideal) (φ := .f32) (n k)
        ≤ Finset.fold max (Ideal.ofBits FTy.f32 0xFF800000#32) (fun k => FloatOps.absf (F := Ideal) (φ := .f32) (n k)) Finset.univ :=
      fun k => ((Finset.fold_max_le (s := Finset.univ) (f := fun k => FloatOps.absf (F := Ideal) (φ := .f32) (n k)) _).mp le_rfl).2 k (Finset.mem_univ k)
    refine ⟨((Finset.fold_max_le _).mp le_rfl).1, fun l _ => ?_⟩
    exact max_le (max_le (max_le (max_le (max_le (max_le (max_le (hb _) (hb _)) (hb _)) (hb _)) (hb _)) (hb _)) (hb _)) (hb _)
  · rw [Finset.fold_max_le]
    refine ⟨((Finset.fold_max_le _).mp le_rfl).1, fun k _ => ?_⟩
    have hl : lane8 n ⟨k.val % 128, Nat.mod_lt _ (by decide)⟩ ≤ Finset.fold max (Ideal.ofBits FTy.f32 0xFF800000#32) (lane8 n) Finset.univ :=
      ((Finset.fold_max_le _).mp le_rfl).2 _ (Finset.mem_univ _)
    refine le_trans ?_ hl
    unfold lane8
    dsimp only
    have hq : k.val / 128 < 8 := by omega
    have hk : k.val = 128 * (k.val / 128) + k.val % 128 := by omega
    simp only [le_max_iff]
    have key : ∀ (j : ℕ) (hj : j + k.val % 128 < 1024), k.val = j + k.val % 128 →
        FloatOps.absf (F := Ideal) (φ := .f32) (n k) ≤ FloatOps.absf (F := Ideal) (φ := .f32) (n ⟨j + k.val % 128, hj⟩) := by
      intro j hj e
      exact le_of_eq (congrArg (fun i => FloatOps.absf (F := Ideal) (φ := .f32) (n i)) (Fin.ext e))
    have key0 : k.val = k.val % 128 →
        FloatOps.absf (F := Ideal) (φ := .f32) (n k) ≤ FloatOps.absf (F := Ideal) (φ := .f32) (n ⟨k.val % 128, by omega⟩) := by
      intro e
      exact le_of_eq (congrArg (fun i => FloatOps.absf (F := Ideal) (φ := .f32) (n i)) (Fin.ext e))
    generalize k.val / 128 = q at hq hk
    interval_cases q
    · exact .inl (.inl (.inl (.inl (.inl (.inl (.inl (key0 (by omega))))))))
    · exact .inl (.inl (.inl (.inl (.inl (.inl (.inr (key 128 _ (by omega))))))))
    · exact .inl (.inl (.inl (.inl (.inl (.inr (key 256 _ (by omega)))))))
    · exact .inl (.inl (.inl (.inl (.inr (key 384 _ (by omega))))))
    · exact .inl (.inl (.inl (.inr (key 512 _ (by omega)))))
    · exact .inl (.inl (.inr (key 640 _ (by omega))))
    · exact .inl (.inr (key 768 _ (by omega)))
    · exact .inr (key 896 _ (by omega))

/-! ## The arrays -/

/-- Row `r` of the normalised operand. -/
def rowAt (x : Vec Ideal S2048x1024 .bf16) (g b : Vec Ideal S1x1024 .f32) (r : Fin 2048) : Fin 1024 → Elt Ideal .f32 :=
  lnRow (fun k => x (ix2 r k)) (fun k => g (ix2 0 k)) (fun k => b (ix2 0 k))

/-- The quantised rows. -/
def qAt (x : Vec Ideal S2048x1024 .bf16) (g b : Vec Ideal S1x1024 .f32) (s : Elt Ideal .f32) : Vec Ideal S2048x1024 .fp8e4m3 := fun y =>
  quant s (rowAt x g b (y 0) (y 1))

/-- Each row's lane-wise largest magnitudes. -/
def laneAt (x : Vec Ideal S2048x1024 .bf16) (g b : Vec Ideal S1x1024 .f32) : Vec Ideal S2048x128 .f32 := fun y =>
  lane8 (rowAt x g b (y 0)) (y 1)

/-- Each row's largest magnitude, 512 rows to a batch. -/
def amAt (x : Vec Ideal S2048x1024 .bf16) (g b : Vec Ideal S1x1024 .f32) : Vec Ideal S4x512 .f32 := fun y =>
  amaxRow (rowAt x g b ⟨512 * (y 0).val + (y 1).val, by have h0 : (y 0).val < 4 := (y 0).isLt; have h1 : (y 1).val < 512 := (y 1).isLt; omega⟩)

/-! ## The payloads, read at an index -/

theorem pay1_apply (v : Vec Ideal S128x128 .f32) (j : S1x128.Idx) :
    k0_pay1 (F := Ideal) v j = Finset.fold max (Ideal.ofBits FTy.f32 0xFF800000#32) (fun x => v (ix2 (j 1) x)) Finset.univ := by
  idx_vars j
  unfold k0_pay1
  pointwise

theorem pay4_eq (v : Vec Ideal S1x1024 .f32) : k0_pay4 (F := Ideal) v = v := by
  funext j
  idx_vars j
  unfold k0_pay4
  pointwise

theorem pay5_eq (v : Vec Ideal S1x1024 .f32) : k0_pay5 (F := Ideal) v = v := by
  funext j
  idx_vars j
  unfold k0_pay5
  pointwise

theorem pay6_eq (v : Vec Ideal S128x128 .f32) : k0_pay6 (F := Ideal) v = v := by
  funext j
  idx_vars j
  unfold k0_pay6
  pointwise

theorem pay2_apply (v3 v5 : Vec Ideal S1x1024 .f32) (v90 : Vec Ideal S128x1024 .bf16) (j0 : Fin 128) (j1 : Fin 1024) :
    k0_pay2 (F := Ideal) v3 v5 v90 (ix2 j0 j1)
      = lnRow (fun k => v90 (ix2 j0 k)) (fun k => v3 (ix2 0 k)) (fun k => v5 (ix2 0 k)) j1 := by
  unfold k0_pay2 lnRow mean
  pointwise

theorem pay3_apply (v3 v5 : Vec Ideal S1x1024 .f32) (v90 : Vec Ideal S128x1024 .bf16) (j0 : Fin 128) (j1 : Fin 128) :
    k0_pay3 (F := Ideal) v3 v5 v90 (ix2 j0 j1)
      = lane8 (lnRow (fun k => v90 (ix2 j0 k)) (fun k => v3 (ix2 0 k)) (fun k => v5 (ix2 0 k))) j1 := by
  have h : ∀ k, lnRow (fun k => v90 (ix2 j0 k)) (fun k => v3 (ix2 0 k)) (fun k => v5 (ix2 0 k)) k = k0_pay2 (F := Ideal) v3 v5 v90 (ix2 j0 k) :=
    fun k => (pay2_apply v3 v5 v90 j0 k).symm
  unfold k0_pay3 lane8
  simp only [h]
  pointwise

theorem pay7_apply (s : Elt Ideal .f32) (v : Vec Ideal S128x1024 .f32) (j : S128x1024.Idx) : k0_pay7 (F := Ideal) s v j = quant s (v j) := by
  idx_vars j
  unfold k0_pay7 quant
  pointwise

/-! ## Rectangles of rows -/

theorem row_lt (w o : ℕ) (inb : ∀ a, (![o, 0] : Fin 2 → Nat) a + (![128, w] : Fin 2 → Nat) a ≤ (![2048, w] : Fin 2 → Nat) a) (z0 : Fin 128) :
    o + z0.val < 2048 := by
  have := inb 0
  have h : o + 128 ≤ 2048 := this
  omega

theorem emb_rows (o : ℕ) (inb : ∀ a, (![o, 0] : Fin 2 → Nat) a + S128x1024.size a ≤ S2048x1024.size a) (z0 : Fin 128) (z1 : Fin 1024) :
    (Rect.unit (s := S2048x1024) ![o, 0] S128x1024.size inb).emb (ix2 z0 z1) = ix2 ⟨o + z0.val, row_lt 1024 o inb z0⟩ z1 := by
  funext a
  apply Fin.ext
  match a with
  | ⟨0, _⟩ => show o + 1 * z0.val = o + z0.val; rw [Nat.one_mul]
  | ⟨1, _⟩ => show 0 + 1 * z1.val = z1.val; rw [Nat.one_mul, Nat.zero_add]

theorem emb_lanes (o : ℕ) (inb : ∀ a, (![o, 0] : Fin 2 → Nat) a + S128x128.size a ≤ S2048x128.size a) (z0 z1 : Fin 128) :
    (Rect.unit (s := S2048x128) ![o, 0] S128x128.size inb).emb (ix2 z0 z1) = ix2 ⟨o + z0.val, row_lt 128 o inb z0⟩ z1 := by
  funext a
  apply Fin.ext
  match a with
  | ⟨0, _⟩ => show o + 1 * z0.val = o + z0.val; rw [Nat.one_mul]
  | ⟨1, _⟩ => show 0 + 1 * z1.val = z1.val; rw [Nat.one_mul, Nat.zero_add]

section
variable {F : FTy → Type} [FloatOps F]

theorem row_eq1 : ∀ k : Fin k0_t1_loop.trips, k0_off1 k = ![128 * k.val, 0] := k0_off1_eq

/-- One trip stores one block of 128 rows into each of the two buffers, at row `128 k`. -/
theorem tripL_eq (𝒱 : Variants) (c : Dev nD) (bd : Option 𝒱.V) (a0 : Memref sig .tc .vmem S2048x1024 .bf16) (h0 : a0.IsWhole) (a1 : Memref sig .tc .vmem S1x1024 .f32) (h1 : a1.IsWhole) (a2 : Memref sig .tc .vmem S1x1024 .f32) (h2 : a2.IsWhole) (a3 : Memref sig .tc .smem S1x1 .f32) (h3 : a3.IsWhole) (a4 : Memref sig .tc .vmem S2048x1024 .fp8e4m3) (h4 : a4.IsWhole) (a5 : Memref sig .tc .vmem S4x512 .f32) (h5 : a5.IsWhole) (a6 : Memref sig .tc .vmem S2048x128 .f32) (h6 : a6.IsWhole) (v0 : Elt F .f32) (v2 v4 : Vec F S1x1024 .f32) (X0 : BufTy.Contents (Elt F) a0.view.ty) (k : Fin k0_t1_loop.trips) :
    ∃ o : ℕ, ∃ inb : ∀ a, (![o, 0] : Fin 2 → Nat) a + S128x1024.size a ≤ S2048x1024.size a, ∃ inb' : ∀ a, (![o, 0] : Fin 2 → Nat) a + S128x128.size a ≤ S2048x128.size a,
    tripL_k0_t1 (F := F) 𝒱 c bd a0 h0 a1 h1 a2 h2 a3 h3 a4 h4 a5 h5 a6 h6 v0 v2 v4 X0 k =
      ([⟨Rect.unit (s := S2048x1024) ![o, 0] S128x1024.size inb,
        k0_pay7 v0 (k0_pay2 (k0_pay4 v2) (k0_pay5 v4) (View.ld (a0.view.read (Elt F) X0) (Rect.unit (s := S2048x1024) ![o, 0] S128x1024.size inb)))⟩],
       [⟨Rect.unit (s := S2048x128) ![o, 0] S128x128.size inb',
        k0_pay6 (k0_pay3 (k0_pay4 v2) (k0_pay5 v4) (View.ld (a0.view.read (Elt F) X0) (Rect.unit (s := S2048x1024) ![o, 0] S128x1024.size inb)))⟩]) := by
  refine ⟨_, k0_off1_inb k, k0_off2_inb k, ?_⟩
  unfold tripL_k0_t1 trip_k0_t1
  dsimp only
  sl_unfold_words
  simp only [View.readAt_eq_ld]

end

/-- Every piece the trips before `n` store is the block of `qAt`, or of `laneAt`, that its rectangle names. -/
theorem pb_agree (𝒱 : Variants) (c : Dev nD) (bd : Option 𝒱.V) (a0 : Memref sig .tc .vmem S2048x1024 .bf16) (h0 : a0.IsWhole) (a1 : Memref sig .tc .vmem S1x1024 .f32) (h1 : a1.IsWhole) (a2 : Memref sig .tc .vmem S1x1024 .f32) (h2 : a2.IsWhole) (a3 : Memref sig .tc .smem S1x1 .f32) (h3 : a3.IsWhole) (a4 : Memref sig .tc .vmem S2048x1024 .fp8e4m3) (h4 : a4.IsWhole) (a5 : Memref sig .tc .vmem S4x512 .f32) (h5 : a5.IsWhole) (a6 : Memref sig .tc .vmem S2048x128 .f32) (h6 : a6.IsWhole) (v0 : Elt Ideal .f32) (v2 v4 : Vec Ideal S1x1024 .f32) (X0 : BufTy.Contents (Elt Ideal) a0.view.ty) :
    ∀ n : ℕ, (∀ p ∈ (pb_k0_t1 (F := Ideal) 𝒱 c bd a0 h0 a1 h1 a2 h2 a3 h3 a4 h4 a5 h5 a6 h6 v0 v2 v4 X0 n).1, ∀ z : p.1.shape.Idx, p.2 z = qAt (a0.view.read (Elt Ideal) X0) v2 v4 v0 (p.1.emb z))
      ∧ (∀ p ∈ (pb_k0_t1 (F := Ideal) 𝒱 c bd a0 h0 a1 h1 a2 h2 a3 h3 a4 h4 a5 h5 a6 h6 v0 v2 v4 X0 n).2, ∀ z : p.1.shape.Idx, p.2 z = laneAt (a0.view.read (Elt Ideal) X0) v2 v4 (p.1.emb z)) := by
  intro n
  induction n with
  | zero => rw [pb_k0_t1.eq_1]; exact ⟨fun p hp => absurd hp (by simp), fun p hp => absurd hp (by simp)⟩
  | succ n ih =>
    by_cases hn : n < k0_t1_loop.trips
    · rw [pb_k0_t1_succ 𝒱 c bd a0 h0 a1 h1 a2 h2 a3 h3 a4 h4 a5 h5 a6 h6 v0 v2 v4 X0 ⟨n, hn⟩]
      obtain ⟨o, inb, inb', e⟩ := tripL_eq (F := Ideal) 𝒱 c bd a0 h0 a1 h1 a2 h2 a3 h3 a4 h4 a5 h5 a6 h6 v0 v2 v4 X0 ⟨n, hn⟩
      rw [e]
      have hrow : ∀ z0 : Fin 128, (fun k => View.ld (a0.view.read (Elt Ideal) X0) (Rect.unit (s := S2048x1024) ![o, 0] S128x1024.size inb) (ix2 z0 k))
          = fun k => a0.view.read (Elt Ideal) X0 (ix2 ⟨o + z0.val, row_lt 1024 o inb z0⟩ k) :=
        fun z0 => funext fun k => congrArg (a0.view.read (Elt Ideal) X0) (emb_rows o inb z0 k)
      constructor
      · intro p hp
        rcases List.mem_append.mp hp with hp | hp
        · rw [List.mem_singleton] at hp
          subst hp
          intro z
          show k0_pay7 (F := Ideal) _ _ z = _
          idx_vars z
          rw [emb_rows, pay7_apply, pay4_eq, pay5_eq, pay2_apply, hrow]
          rfl
        · exact ih.1 p hp
      · intro p hp
        rcases List.mem_append.mp hp with hp | hp
        · rw [List.mem_singleton] at hp
          subst hp
          intro z
          dsimp only at z ⊢
          rw [pay6_eq]
          idx_vars z
          rw [emb_lanes, pay4_eq, pay5_eq, pay3_apply, hrow]
          rfl
        · exact ih.2 p hp
    · rw [pb_k0_t1.eq_2]
      unfold pb_k0_t1Step
      rw [dif_neg hn]
      exact ih

/-- Reading the one scale. -/
theorem ld_one (x : Vec Ideal S1x1 .f32) (z : S1x1.Idx) :
    View.ld x (Rect.unit (s := S1x1) ![0, 0] S1x1.size inb_S1x1_S1x1_0_0) z = x (ix2 0 0) := by
  refine congrArg x ?_
  funext a
  match a with
  | ⟨0, h⟩ => exact Subsingleton.elim (α := Fin 1) _ _
  | ⟨1, h⟩ => exact Subsingleton.elim (α := Fin 1) _ _

/-- The first staging buffer ends holding the quantised rows. -/
theorem out_4 (c : Dev nD) (a0 : Memref sig .tc .vmem S2048x1024 .bf16) (h0 : a0.IsWhole) (a1 : Memref sig .tc .vmem S1x1024 .f32) (h1 : a1.IsWhole) (a2 : Memref sig .tc .vmem S1x1024 .f32) (h2 : a2.IsWhole) (a3 : Memref sig .tc .smem S1x1 .f32) (h3 : a3.IsWhole) (a4 : Memref sig .tc .vmem S2048x1024 .fp8e4m3) (h4 : a4.IsWhole) (a5 : Memref sig .tc .vmem S4x512 .f32) (h5 : a5.IsWhole) (a6 : Memref sig .tc .vmem S2048x128 .f32) (h6 : a6.IsWhole) (x0 : Vec Ideal S2048x1024 .bf16) (x1 x2 : Vec Ideal S1x1024 .f32) (x3 : Vec Ideal S1x1 .f32) :
    out0_A_4 (F := Ideal) c a0 h0 a1 h1 a2 h2 a3 h3 a4 h4 a5 h5 a6 h6 x0 x1 x2 x3 = qAt x0 x1 x2 (x3 (ix2 0 0)) := by
  funext y
  unfold out0_A_4
  rw [View.read_writes_eq_canon _ _ _ (cover0_A_4 c a0 h0 a1 h1 a2 h2 a3 h3 a4 h4 a5 h5 a6 h6 x0 x1 x2 x3)]
  have hcov := cover0_A_4 (F := Ideal) c a0 h0 a1 h1 a2 h2 a3 h3 a4 h4 a5 h5 a6 h6 x0 x1 x2 x3 y
  revert hcov
  unfold kernelRun0_A
  dsimp only
  sl_unfold_words
  intro hcov
  rw [View.canon_apply_of_pieces _ _ (pb_agree Variants.none c none a0 h0 a1 h1 a2 h2 a3 h3 a4 h4 a5 h5 a6 h6 _ _ _ _ _).1 y hcov]
  simp only [View.readAt_eq_ld]
  rw [h0.read_unread, h1.read_unread, h2.read_unread, h3.read_unread, View.ld_unit_zero (S := S1x1024) hz, View.ld_unit_zero (S := S1x1024) hz]
  exact congrArg (fun s => qAt x0 x1 x2 s y) (ld_one x3 _)

/-- A load of the lane buffer after the trips reads the lane-wise largest magnitudes. -/
theorem lanes_cov (c : Dev nD) (a0 : Memref sig .tc .vmem S2048x1024 .bf16) (h0 : a0.IsWhole) (a1 : Memref sig .tc .vmem S1x1024 .f32) (h1 : a1.IsWhole) (a2 : Memref sig .tc .vmem S1x1024 .f32) (h2 : a2.IsWhole) (a3 : Memref sig .tc .smem S1x1 .f32) (h3 : a3.IsWhole) (a4 : Memref sig .tc .vmem S2048x1024 .fp8e4m3) (h4 : a4.IsWhole) (a5 : Memref sig .tc .vmem S4x512 .f32) (h5 : a5.IsWhole) (a6 : Memref sig .tc .vmem S2048x128 .f32) (h6 : a6.IsWhole) (v0 : Elt Ideal .f32) (v2 v4 : Vec Ideal S1x1024 .f32) (X0 : BufTy.Contents (Elt Ideal) a0.view.ty) (r : Rect S2048x128) (n : ℕ) (hn : n = k0_t1_loop.trips) :
    a6.view.readCov (pb_k0_t1 (F := Ideal) Variants.none c none a0 h0 a1 h1 a2 h2 a3 h3 a4 h4 a5 h5 a6 h6 v0 v2 v4 X0 n).2 r.toLoadRect
      = View.ld (laneAt (a0.view.read (Elt Ideal) X0) v2 v4) r := by
  subst hn
  rw [View.readCov_eq_canon']
  have hc : ∀ y : S2048x128.Idx, ∃ p ∈ (pb_k0_t1 (F := Ideal) Variants.none c none a0 h0 a1 h1 a2 h2 a3 h3 a4 h4 a5 h5 a6 h6 v0 v2 v4 X0 k0_t1_loop.trips).2, y ∈ p.1.set :=
    View.cover_of_tiledL (pb_k0_t1 (F := Ideal) Variants.none c none a0 h0 a1 h1 a2 h2 a3 h3 a4 h4 a5 h5 a6 h6 v0 v2 v4 X0 k0_t1_loop.trips).2 S128x128.size (by sl_kernel_rfl)
  funext j
  exact View.canon_apply_of_pieces _ _ (pb_agree Variants.none c none a0 h0 a1 h1 a2 h2 a3 h3 a4 h4 a5 h5 a6 h6 _ _ _ _ _).2 _ (hc _)

/-- The row of largest magnitudes of 128 rows of the lane buffer. -/
theorem max_piece (x : Vec Ideal S2048x1024 .bf16) (g b : Vec Ideal S1x1024 .f32) (bb o R : ℕ) (hR : R = 512 * bb + o)
    (inb : ∀ a, (![R, 0] : Fin 2 → Nat) a + S128x128.size a ≤ S2048x128.size a)
    (inb' : ∀ a, (![bb, o] : Fin 2 → Nat) a + S1x128.size a ≤ S4x512.size a) (z : S1x128.Idx) :
    k0_pay1 (F := Ideal) (View.ld (laneAt x g b) (Rect.unit (s := S2048x128) ![R, 0] S128x128.size inb)) z
      = amAt x g b ((Rect.unit (s := S4x512) ![bb, o] S1x128.size inb').emb z) := by
  subst hR
  rw [pay1_apply]
  unfold amAt
  rw [← fold_lane8]
  refine Finset.fold_congr fun l _ => ?_
  refine (congrArg (laneAt x g b) (emb_lanes _ inb (z 1) l)).trans ?_
  show lane8 (rowAt x g b _) l = lane8 (rowAt x g b _) l
  refine congrArg (fun r => lane8 (rowAt x g b r) l) (Fin.ext ?_)
  have hz0 : (z 0).val = 0 := by have : (z 0).val < 1 := (z 0).isLt; omega
  show 512 * bb + o + (z 1).val = 512 * (bb + 1 * (z 0).val) + (o + 1 * (z 1).val)
  omega

/-- The second staging buffer ends holding each row's largest magnitude: sixteen stores, each of 128 rows' worth. -/
theorem out_5 (c : Dev nD) (a0 : Memref sig .tc .vmem S2048x1024 .bf16) (h0 : a0.IsWhole) (a1 : Memref sig .tc .vmem S1x1024 .f32) (h1 : a1.IsWhole) (a2 : Memref sig .tc .vmem S1x1024 .f32) (h2 : a2.IsWhole) (a3 : Memref sig .tc .smem S1x1 .f32) (h3 : a3.IsWhole) (a4 : Memref sig .tc .vmem S2048x1024 .fp8e4m3) (h4 : a4.IsWhole) (a5 : Memref sig .tc .vmem S4x512 .f32) (h5 : a5.IsWhole) (a6 : Memref sig .tc .vmem S2048x128 .f32) (h6 : a6.IsWhole) (x0 : Vec Ideal S2048x1024 .bf16) (x1 x2 : Vec Ideal S1x1024 .f32) (x3 : Vec Ideal S1x1 .f32) :
    out0_A_5 (F := Ideal) c a0 h0 a1 h1 a2 h2 a3 h3 a4 h4 a5 h5 a6 h6 x0 x1 x2 x3 = amAt x0 x1 x2 := by
  funext y
  unfold out0_A_5
  rw [View.read_writes_eq_canon _ _ _ (cover0_A_5 c a0 h0 a1 h1 a2 h2 a3 h3 a4 h4 a5 h5 a6 h6 x0 x1 x2 x3)]
  have hcov := cover0_A_5 (F := Ideal) c a0 h0 a1 h1 a2 h2 a3 h3 a4 h4 a5 h5 a6 h6 x0 x1 x2 x3 y
  refine View.canon_apply_of_pieces _ _ ?_ y hcov
  clear hcov
  unfold kernelRun0_A
  dsimp only
  sl_unfold_words
  have hL := fun v0 v2 v4 X0 r => lanes_cov c a0 h0 a1 h1 a2 h2 a3 h3 a4 h4 a5 h5 a6 h6 v0 v2 v4 X0 r (Scf.trips 0#32 (Scalar.addi 0#32 16#32) 1#32) rfl
  simp only [View.readAt_eq_ld, hL, h0.read_unread, h1.read_unread, h2.read_unread, View.ld_unit_zero (S := S1x1024) hz]
  refine List.forall_mem_cons.mpr ⟨fun z => ?_, ?_⟩
  · dsimp only at z ⊢; exact max_piece x0 x1 x2 3 384 1920 rfl inb_S2048x128_S128x128_1920_0 inb_S4x512_S1x128_3_384 z
  refine List.forall_mem_cons.mpr ⟨fun z => ?_, ?_⟩
  · dsimp only at z ⊢; exact max_piece x0 x1 x2 3 256 1792 rfl inb_S2048x128_S128x128_1792_0 inb_S4x512_S1x128_3_256 z
  refine List.forall_mem_cons.mpr ⟨fun z => ?_, ?_⟩
  · dsimp only at z ⊢; exact max_piece x0 x1 x2 3 128 1664 rfl inb_S2048x128_S128x128_1664_0 inb_S4x512_S1x128_3_128 z
  refine List.forall_mem_cons.mpr ⟨fun z => ?_, ?_⟩
  · dsimp only at z ⊢; exact max_piece x0 x1 x2 3 0 1536 rfl inb_S2048x128_S128x128_1536_0 inb_S4x512_S1x128_3_0 z
  refine List.forall_mem_cons.mpr ⟨fun z => ?_, ?_⟩
  · dsimp only at z ⊢; exact max_piece x0 x1 x2 2 384 1408 rfl inb_S2048x128_S128x128_1408_0 inb_S4x512_S1x128_2_384 z
  refine List.forall_mem_cons.mpr ⟨fun z => ?_, ?_⟩
  · dsimp only at z ⊢; exact max_piece x0 x1 x2 2 256 1280 rfl inb_S2048x128_S128x128_1280_0 inb_S4x512_S1x128_2_256 z
  refine List.forall_mem_cons.mpr ⟨fun z => ?_, ?_⟩
  · dsimp only at z ⊢; exact max_piece x0 x1 x2 2 128 1152 rfl inb_S2048x128_S128x128_1152_0 inb_S4x512_S1x128_2_128 z
  refine List.forall_mem_cons.mpr ⟨fun z => ?_, ?_⟩
  · dsimp only at z ⊢; exact max_piece x0 x1 x2 2 0 1024 rfl inb_S2048x128_S128x128_1024_0 inb_S4x512_S1x128_2_0 z
  refine List.forall_mem_cons.mpr ⟨fun z => ?_, ?_⟩
  · dsimp only at z ⊢; exact max_piece x0 x1 x2 1 384 896 rfl inb_S2048x128_S128x128_896_0 inb_S4x512_S1x128_1_384 z
  refine List.forall_mem_cons.mpr ⟨fun z => ?_, ?_⟩
  · dsimp only at z ⊢; exact max_piece x0 x1 x2 1 256 768 rfl inb_S2048x128_S128x128_768_0 inb_S4x512_S1x128_1_256 z
  refine List.forall_mem_cons.mpr ⟨fun z => ?_, ?_⟩
  · dsimp only at z ⊢; exact max_piece x0 x1 x2 1 128 640 rfl inb_S2048x128_S128x128_640_0 inb_S4x512_S1x128_1_128 z
  refine List.forall_mem_cons.mpr ⟨fun z => ?_, ?_⟩
  · dsimp only at z ⊢; exact max_piece x0 x1 x2 1 0 512 rfl inb_S2048x128_S128x128_512_0 inb_S4x512_S1x128_1_0 z
  refine List.forall_mem_cons.mpr ⟨fun z => ?_, ?_⟩
  · dsimp only at z ⊢; exact max_piece x0 x1 x2 0 384 384 rfl inb_S2048x128_S128x128_384_0 inb_S4x512_S1x128_0_384 z
  refine List.forall_mem_cons.mpr ⟨fun z => ?_, ?_⟩
  · dsimp only at z ⊢; exact max_piece x0 x1 x2 0 256 256 rfl inb_S2048x128_S128x128_256_0 inb_S4x512_S1x128_0_256 z
  refine List.forall_mem_cons.mpr ⟨fun z => ?_, ?_⟩
  · dsimp only at z ⊢; exact max_piece x0 x1 x2 0 128 128 rfl inb_S2048x128_S128x128_128_0 inb_S4x512_S1x128_0_128 z
  refine List.forall_mem_cons.mpr ⟨fun z => ?_, ?_⟩
  · dsimp only at z ⊢; exact max_piece x0 x1 x2 0 0 0 rfl inb_S2048x128_S128x128_0_0 inb_S4x512_S1x128_0_0 z
  exact List.forall_mem_nil _

/-! ## The result arrays after the run -/

section
variable {F : FTy → Type} [FloatOps F]
variable (m : (ℓ : Loc nD τ sig) → Buf (Elt F) ℓ)

/-- Window 0's one block is its whole array. -/
theorem iblk_0 (c : Dev nD) (t : Fin cfg0.N) : iblk m c 0 t = V m c main_v0 := by
  have hz' : (fun a => win0_0.index t a * main_v0.ty.shape.size a) = fun _ => 0 := funext fun a => by
    obtain rfl : t = t0_0 := fin_N0 t
    fin_cases a <;> decide
  exact Memref.read_access_unit_zero (Elt F) main_v0 hz' (fun a => by rw [congrFun hz' a]; simp) (V m c main_v0)

/-- Window 1's one block is its whole array. -/
theorem iblk_1 (c : Dev nD) (t : Fin cfg0.N) : iblk m c 1 t = V m c main_v1 := by
  have hz' : (fun a => win0_1.index t a * main_v1.ty.shape.size a) = fun _ => 0 := funext fun a => by
    obtain rfl : t = t0_0 := fin_N0 t
    fin_cases a <;> decide
  exact Memref.read_access_unit_zero (Elt F) main_v1 hz' (fun a => by rw [congrFun hz' a]; simp) (V m c main_v1)

/-- Window 2's one block is its whole array. -/
theorem iblk_2 (c : Dev nD) (t : Fin cfg0.N) : iblk m c 2 t = V m c main_v2 := by
  have hz' : (fun a => win0_2.index t a * main_v2.ty.shape.size a) = fun _ => 0 := funext fun a => by
    obtain rfl : t = t0_0 := fin_N0 t
    fin_cases a <;> decide
  exact Memref.read_access_unit_zero (Elt F) main_v2 hz' (fun a => by rw [congrFun hz' a]; simp) (V m c main_v2)

/-- Window 3's one block is its whole array. -/
theorem iblk_3 (c : Dev nD) (t : Fin cfg0.N) : iblk m c 3 t = V m c main_v3 := by
  have hz' : (fun a => win0_3.index t a * main_v3.ty.shape.size a) = fun _ => 0 := funext fun a => by
    obtain rfl : t = t0_0 := fin_N0 t
    fin_cases a <;> decide
  exact Memref.read_access_unit_zero (Elt F) main_v3 hz' (fun a => by rw [congrFun hz' a]; simp) (V m c main_v3)

end

variable (m : (ℓ : Loc nD τ sig) → Buf (Elt Ideal) ℓ) (ρ : Dev nD → PrngReg)

/-- The quantised rows of the arguments as launched. -/
def resultQ (c : Dev nD) : Buf (Elt Ideal) ((c.tc : Thread nD τ).loc main_v4_0) :=
  qAt (shapeCast S2048x1024 (m ((c.tc : Thread nD τ).loc main_arg0)) shapeCasts_S4x512x1024_S2048x1024)
    (shapeCast S1x1024 (m ((c.tc : Thread nD τ).loc main_arg1)) shapeCasts_S1024_S1x1024)
    (shapeCast S1x1024 (m ((c.tc : Thread nD τ).loc main_arg2)) shapeCasts_S1024_S1x1024)
    ((shapeCast S1x1 (m ((c.tc : Thread nD τ).loc main_arg3)) shapeCasts_S_S1x1 : Vec Ideal S1x1 .f32) (ix2 0 0))

/-- The rows' largest magnitudes of the arguments as launched. -/
def resultM (c : Dev nD) : Buf (Elt Ideal) ((c.tc : Thread nD τ).loc main_v4_1) :=
  amAt (shapeCast S2048x1024 (m ((c.tc : Thread nD τ).loc main_arg0)) shapeCasts_S4x512x1024_S2048x1024)
    (shapeCast S1x1024 (m ((c.tc : Thread nD τ).loc main_arg1)) shapeCasts_S1024_S1x1024)
    (shapeCast S1x1024 (m ((c.tc : Thread nD τ).loc main_arg2)) shapeCasts_S1024_S1x1024)

/-- The first result array, whose one block is the whole array, ends holding the quantised rows. -/
theorem finalQ (c : Dev nD) : (dats m 0 c).arrAt 4 cfg0.N = resultQ m c := by
  have hz' : (fun a => win0_4.index t0_0 a * main_v4_0.ty.shape.size a) = fun _ => 0 := funext fun a => by fin_cases a <;> decide
  have hr : ((cfg0.win 4).blk t0_0).view.read (Elt Ideal) ((dats m 0 c).arrAt 4 cfg0.N) = (dats m 0 c).arrAt 4 cfg0.N :=
    Memref.read_access_unit_zero (Elt Ideal) main_v4_0 hz' (fun a => by rw [congrFun hz' a]; simp) _
  refine hr.symm.trans ((Value.blocks4 m c t0_0 (by decide)).trans ((Value.flushed4_A m c t0_0).trans ?_))
  rw [out_4, iblk_0, iblk_1, iblk_2, iblk_3]
  rfl

/-- The second ends holding the largest magnitudes. -/
theorem finalM (c : Dev nD) : (dats m 0 c).arrAt 5 cfg0.N = resultM m c := by
  have hz' : (fun a => win0_5.index t0_0 a * main_v4_1.ty.shape.size a) = fun _ => 0 := funext fun a => by fin_cases a <;> decide
  have hr : ((cfg0.win 5).blk t0_0).view.read (Elt Ideal) ((dats m 0 c).arrAt 5 cfg0.N) = (dats m 0 c).arrAt 5 cfg0.N :=
    Memref.read_access_unit_zero (Elt Ideal) main_v4_1 hz' (fun a => by rw [congrFun hz' a]; simp) _
  refine hr.symm.trans ((Value.blocks5 m c t0_0 (by decide)).trans ((Value.flushed5_A m c t0_0).trans ?_))
  rw [out_5, iblk_0, iblk_1, iblk_2]
  rfl

/-- The run: the result arrays hold the quantised rows and the largest magnitudes, the arguments are unchanged. -/
theorem run : θ_run defs (onTc (τ := τ) (main (F := Ideal))) ⟨m, fun _ => 0, ρ⟩ fun r => ∀ c : Dev nD,
      r.2.mem ((c.tc : Thread nD τ).loc main_v4_0) = resultQ m c
      ∧ r.2.mem ((c.tc : Thread nD τ).loc main_v4_1) = resultM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (finalQ m c), (h c).2.1.trans (finalM m c), (h c).2.2⟩) (Value.run_blocks (F := Ideal) m ρ)

end Cert.KernelLnIdeal.LnValue
end
-- ==== Proof.LnReference.lean ====
module

public import proofs.«01_k».proof.Proof.LnKernel
public import proofs.«01_k».proof.Proof.Gen.ReferenceLnIdeal.Value

/-!
What `ReferenceLnIdeal` leaves in its two result arrays, and that it is what `KernelLnIdeal` leaves there: row `512 b + s` of the
kernel's operand is row `s` of batch `b` of the reference's, and the largest magnitude of a row does not depend on the order it is
taken in.
-/

@[expose] public section

set_option maxRecDepth 16384

noncomputable section

open Idealize.ShloMosaic Idealize.ShloMosaic.TcCoe Idealize.SL.Sem
open Idealize.ShloMosaic.Pipeline (Dat)

namespace Cert.ReferenceLnIdeal.LnValue

open Cert.ReferenceLnIdeal Cert.ReferenceLnIdeal.Gen
open Cert.KernelLnIdeal.LnValue (mean lnRow quant amaxRow)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `s` of batch `b` of the normalised operand. -/
def rowRef (x : Vec Ideal S4x512x1024 .bf16) (g b : Vec Ideal S1x1x1024 .f32) (i : Fin 4) (s : Fin 512) : Fin 1024 → Elt Ideal .f32 :=
  lnRow (fun k => x (ix3 i s k)) (fun k => g (ix3 0 0 k)) (fun k => b (ix3 0 0 k))

/-- The quantised rows, batch after batch. -/
def qRef (x : Vec Ideal S4x512x1024 .bf16) (g b : Vec Ideal S1x1x1024 .f32) (s : Elt Ideal .f32) : Vec Ideal S2048x1024 .fp8e4m3 := fun y =>
  quant s (rowRef x g b ⟨(y 0).val / 512, by have h : (y 0).val < 2048 := (y 0).isLt; omega⟩ ⟨(y 0).val % 512, Nat.mod_lt _ (by decide)⟩ (y 1))

/-- Each row's largest magnitude. -/
def amRef (x : Vec Ideal S4x512x1024 .bf16) (g b : Vec Ideal S1x1x1024 .f32) : Vec Ideal S4x512 .f32 := fun y =>
  amaxRow (rowRef x g b (y 0) (y 1))

/-! ## The payloads, read at an index -/

theorem pay2_apply (v0 : Vec Ideal S4x512x1024 .bf16) (v18 v22 : Vec Ideal S1x1x1024 .f32) (j0 : Fin 4) (j1 : Fin 512) (j2 : Fin 1024) :
    k0_pay2 (F := Ideal) v0 v18 v22 (ix3 j0 j1 j2) = rowRef v0 v18 v22 j0 j1 j2 := by
  unfold k0_pay2 rowRef lnRow mean
  pointwise

theorem pay3_eq (v0 : Vec Ideal S4x512x1024 .bf16) (v18 v22 : Vec Ideal S1x1x1024 .f32) :
    k0_pay3 (F := Ideal) v0 v18 v22 = amRef v0 v18 v22 := by
  funext j
  idx_vars j
  have h : ∀ k, k0_pay2 (F := Ideal) v0 v18 v22 (ix3 j0 j1 k) = rowRef v0 v18 v22 j0 j1 k := pay2_apply v0 v18 v22 j0 j1
  show _ = amaxRow (rowRef v0 v18 v22 j0 j1)
  rw [← funext h]
  unfold k0_pay3 amaxRow
  pointwise

theorem pay1_eq (v0 : Vec Ideal S4x512x1024 .bf16) (v18 v22 : Vec Ideal S1x1x1024 .f32) (s : Elt Ideal .f32) :
    k0_pay1 (F := Ideal) (k0_pay4 (F := Ideal) v0 v18 v22 s) = qRef v0 v18 v22 s := by
  funext j
  idx_vars j
  refine Eq.trans ?_ (congrArg (quant s) (pay2_apply v0 v18 v22 ⟨j0.val / 512, by omega⟩ ⟨j0.val % 512, by omega⟩ j1))
  unfold k0_pay1 k0_pay4 quant
  pointwise

/-- Reading the one scale. -/
theorem ld_one (x5 : Vec Ideal S1x1 .f32) (z : S1x1.Idx) :
    View.ld x5 (Rect.unit (s := S1x1) ![0, 0] S1x1.size inb_S1x1_S1x1_0_0) z = x5 (ix2 0 0) := by
  refine congrArg x5 ?_
  funext a
  match a with
  | ⟨0, h⟩ => exact Subsingleton.elim (α := Fin 1) _ _
  | ⟨1, h⟩ => exact Subsingleton.elim (α := Fin 1) _ _

/-- The first store's payload, of whole-buffer loads. -/
theorem out_4 (c : Dev nD) (a0 : Memref sig .tc .vmem S4x512x1024 .bf16) (h0 : a0.IsWhole) (a1 : Memref sig .tc .vmem S1x1x1024 .f32) (h1 : a1.IsWhole) (a2 : Memref sig .tc .vmem S1x1x1024 .f32) (h2 : a2.IsWhole) (a3 : Memref sig .tc .smem S1x1 .f32) (h3 : a3.IsWhole) (a4 : Memref sig .tc .vmem S2048x1024 .fp8e4m3) (h4 : a4.IsWhole) (a5 : Memref sig .tc .vmem S4x512 .f32) (h5 : a5.IsWhole) (x0 : Vec Ideal S4x512x1024 .bf16) (x1 x2 : Vec Ideal S1x1x1024 .f32) (x3 : Vec Ideal S1x1 .f32) :
    out0_A_4 (F := Ideal) c a0 h0 a1 h1 a2 h2 a3 h3 a4 h4 a5 h5 x0 x1 x2 x3 = qRef x0 x1 x2 (x3 (ix2 0 0)) := by
  unfold out0_A_4
  rw [View.read_writes_eq_canon _ _ _ (cover0_A_4 c a0 h0 a1 h1 a2 h2 a3 h3 a4 h4 a5 h5 x0 x1 x2 x3)]
  unfold kernelRun0_A
  dsimp only
  sl_unfold_words
  rw [View.canon_unit_zero (S := S2048x1024) hz2]
  simp only [View.readAt_eq_ld, h0.read_unread, h1.read_unread, h2.read_unread, h3.read_unread,
    View.ld_unit_zero (S := S4x512x1024) hz3, View.ld_unit_zero (S := S1x1x1024) hz3]
  refine (pay1_eq _ _ _ _).trans ?_
  rw [ld_one]

/-- The second store's payload, of whole-buffer loads. -/
theorem out_5 (c : Dev nD) (a0 : Memref sig .tc .vmem S4x512x1024 .bf16) (h0 : a0.IsWhole) (a1 : Memref sig .tc .vmem S1x1x1024 .f32) (h1 : a1.IsWhole) (a2 : Memref sig .tc .vmem S1x1x1024 .f32) (h2 : a2.IsWhole) (a3 : Memref sig .tc .smem S1x1 .f32) (h3 : a3.IsWhole) (a4 : Memref sig .tc .vmem S2048x1024 .fp8e4m3) (h4 : a4.IsWhole) (a5 : Memref sig .tc .vmem S4x512 .f32) (h5 : a5.IsWhole) (x0 : Vec Ideal S4x512x1024 .bf16) (x1 x2 : Vec Ideal S1x1x1024 .f32) (x3 : Vec Ideal S1x1 .f32) :
    out0_A_5 (F := Ideal) c a0 h0 a1 h1 a2 h2 a3 h3 a4 h4 a5 h5 x0 x1 x2 x3 = amRef x0 x1 x2 := by
  unfold out0_A_5
  rw [View.read_writes_eq_canon _ _ _ (cover0_A_5 c a0 h0 a1 h1 a2 h2 a3 h3 a4 h4 a5 h5 x0 x1 x2 x3)]
  unfold kernelRun0_A
  dsimp only
  sl_unfold_words
  rw [View.canon_unit_zero (S := S4x512) hz2]
  simp only [View.readAt_eq_ld, h0.read_unread, h1.read_unread, h2.read_unread, h3.read_unread,
    View.ld_unit_zero (S := S4x512x1024) hz3, View.ld_unit_zero (S := S1x1x1024) hz3]
  exact pay3_eq _ _ _

/-! ## The result arrays after the run -/

section
variable {F : FTy → Type} [FloatOps F]
variable (m : (ℓ : Loc nD τ sig) → Buf (Elt F) ℓ)

/-- Window 0's one block is its whole array. -/
theorem iblk_0 (c : Dev nD) (t : Fin cfg0.N) : iblk m c 0 t = V m c main_arg0 := by
  have hz' : (fun a => win0_0.index t a * main_arg0.ty.shape.size a) = fun _ => 0 := funext fun a => by
    obtain rfl : t = t0_0 := fin_N0 t
    fin_cases a <;> decide
  exact Memref.read_access_unit_zero (Elt F) main_arg0 hz' (fun a => by rw [congrFun hz' a]; simp) (V m c main_arg0)

/-- Window 1's one block is its whole array. -/
theorem iblk_1 (c : Dev nD) (t : Fin cfg0.N) : iblk m c 1 t = V m c main_v0 := by
  have hz' : (fun a => win0_1.index t a * main_v0.ty.shape.size a) = fun _ => 0 := funext fun a => by
    obtain rfl : t = t0_0 := fin_N0 t
    fin_cases a <;> decide
  exact Memref.read_access_unit_zero (Elt F) main_v0 hz' (fun a => by rw [congrFun hz' a]; simp) (V m c main_v0)

/-- Window 2's one block is its whole array. -/
theorem iblk_2 (c : Dev nD) (t : Fin cfg0.N) : iblk m c 2 t = V m c main_v1 := by
  have hz' : (fun a => win0_2.index t a * main_v1.ty.shape.size a) = fun _ => 0 := funext fun a => by
    obtain rfl : t = t0_0 := fin_N0 t
    fin_cases a <;> decide
  exact Memref.read_access_unit_zero (Elt F) main_v1 hz' (fun a => by rw [congrFun hz' a]; simp) (V m c main_v1)

/-- Window 3's one block is its whole array. -/
theorem iblk_3 (c : Dev nD) (t : Fin cfg0.N) : iblk m c 3 t = V m c main_v2 := by
  have hz' : (fun a => win0_3.index t a * main_v2.ty.shape.size a) = fun _ => 0 := funext fun a => by
    obtain rfl : t = t0_0 := fin_N0 t
    fin_cases a <;> decide
  exact Memref.read_access_unit_zero (Elt F) main_v2 hz' (fun a => by rw [congrFun hz' a]; simp) (V m c main_v2)

end

variable (m : (ℓ : Loc nD τ sig) → Buf (Elt Ideal) ℓ) (ρ : Dev nD → PrngReg)

/-- The quantised rows of the arguments as launched. -/
def resultQ (c : Dev nD) : Buf (Elt Ideal) ((c.tc : Thread nD τ).loc main_v3_0) :=
  qRef (m ((c.tc : Thread nD τ).loc main_arg0))
    (shapeCast S1x1x1024 (m ((c.tc : Thread nD τ).loc main_arg1)) shapeCasts_S1024_S1x1x1024)
    (shapeCast S1x1x1024 (m ((c.tc : Thread nD τ).loc main_arg2)) shapeCasts_S1024_S1x1x1024)
    ((shapeCast S1x1 (m ((c.tc : Thread nD τ).loc main_arg3)) shapeCasts_S_S1x1 : Vec Ideal S1x1 .f32) (ix2 0 0))

/-- The rows' largest magnitudes of the arguments as launched. -/
def resultM (c : Dev nD) : Buf (Elt Ideal) ((c.tc : Thread nD τ).loc main_v3_1) :=
  amRef (m ((c.tc : Thread nD τ).loc main_arg0))
    (shapeCast S1x1x1024 (m ((c.tc : Thread nD τ).loc main_arg1)) shapeCasts_S1024_S1x1x1024)
    (shapeCast S1x1x1024 (m ((c.tc : Thread nD τ).loc main_arg2)) shapeCasts_S1024_S1x1x1024)

/-- The first result array, whose one block is the whole array, ends holding the quantised rows. -/
theorem finalQ (c : Dev nD) : (dats m 0 c).arrAt 4 cfg0.N = resultQ m c := by
  have hz' : (fun a => win0_4.index t0_0 a * main_v3_0.ty.shape.size a) = fun _ => 0 := funext fun a => by fin_cases a <;> decide
  have hr : ((cfg0.win 4).blk t0_0).view.read (Elt Ideal) ((dats m 0 c).arrAt 4 cfg0.N) = (dats m 0 c).arrAt 4 cfg0.N :=
    Memref.read_access_unit_zero (Elt Ideal) main_v3_0 hz' (fun a => by rw [congrFun hz' a]; simp) _
  refine hr.symm.trans ((Value.blocks4 m c t0_0 (by decide)).trans ((Value.flushed4_A m c t0_0).trans ?_))
  rw [out_4, iblk_0, iblk_1, iblk_2, iblk_3]
  rfl

/-- The second ends holding the largest magnitudes. -/
theorem finalM (c : Dev nD) : (dats m 0 c).arrAt 5 cfg0.N = resultM m c := by
  have hz' : (fun a => win0_5.index t0_0 a * main_v3_1.ty.shape.size a) = fun _ => 0 := funext fun a => by fin_cases a <;> decide
  have hr : ((cfg0.win 5).blk t0_0).view.read (Elt Ideal) ((dats m 0 c).arrAt 5 cfg0.N) = (dats m 0 c).arrAt 5 cfg0.N :=
    Memref.read_access_unit_zero (Elt Ideal) main_v3_1 hz' (fun a => by rw [congrFun hz' a]; simp) _
  refine hr.symm.trans ((Value.blocks5 m c t0_0 (by decide)).trans ((Value.flushed5_A m c t0_0).trans ?_))
  rw [out_5, iblk_0, iblk_1, iblk_2]
  rfl

/-- The run: the result arrays hold the quantised rows and the largest magnitudes, the arguments are unchanged. -/
theorem run : θ_run defs (onTc (τ := τ) (main (F := Ideal))) ⟨m, fun _ => 0, ρ⟩ fun r => ∀ c : Dev nD,
      r.2.mem ((c.tc : Thread nD τ).loc main_v3_0) = resultQ m c
      ∧ r.2.mem ((c.tc : Thread nD τ).loc main_v3_1) = resultM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (finalQ m c), (h c).2.1.trans (finalM m c), (h c).2.2⟩) (Value.run_blocks (F := Ideal) m ρ)

/-! ## The two programs' results are the same -/

open Cert.KernelLnIdeal.LnValue (rowAt qAt amAt)

/-- One row, of the flattened operand and of the operand by batches. -/
theorem row_eq (X : Vec Ideal S4x512x1024 .bf16) (g b : Vec Ideal S1024 .f32) (hX : S4x512x1024.ShapeCasts S2048x1024)
    (h2 : S1024.ShapeCasts Cert.KernelLnIdeal.S1x1024) (h3 : S1024.ShapeCasts S1x1x1024) (i : Fin 4) (s : Fin 512) (r : Fin 2048) (hr : r.val = 512 * i.val + s.val) :
    rowAt (shapeCast S2048x1024 X hX) (shapeCast Cert.KernelLnIdeal.S1x1024 g h2) (shapeCast Cert.KernelLnIdeal.S1x1024 b h2) r
      = rowRef X (shapeCast S1x1x1024 g h3) (shapeCast S1x1x1024 b h3) i s := by
  have hi : i = ⟨r.val / 512, Nat.div_lt_of_lt_mul (show r.val < 512 * 4 from r.isLt)⟩ := Fin.ext (by show i.val = r.val / 512; have := s.isLt; omega)
  have hs : s = ⟨r.val % 512, Nat.mod_lt _ (by decide)⟩ := Fin.ext (by show s.val = r.val % 512; have := s.isLt; omega)
  clear hr
  subst hi hs
  unfold rowAt rowRef
  congr 1 <;> funext k <;> pointwise

/-- The quantised rows are the same array. -/
theorem q_eq (X : Vec Ideal S4x512x1024 .bf16) (g b : Vec Ideal S1024 .f32) (s : Elt Ideal .f32) (hX : S4x512x1024.ShapeCasts S2048x1024)
    (h2 : S1024.ShapeCasts Cert.KernelLnIdeal.S1x1024) (h3 : S1024.ShapeCasts S1x1x1024) :
    qAt (shapeCast S2048x1024 X hX) (shapeCast Cert.KernelLnIdeal.S1x1024 g h2) (shapeCast Cert.KernelLnIdeal.S1x1024 b h2) s
      = qRef X (shapeCast S1x1x1024 g h3) (shapeCast S1x1x1024 b h3) s := by
  funext y
  unfold qAt qRef
  rw [row_eq X g b hX h2 h3 ⟨(y 0).val / 512, by have h : (y 0).val < 2048 := (y 0).isLt; omega⟩ ⟨(y 0).val % 512, Nat.mod_lt _ (by decide)⟩ (y 0) (Nat.div_add_mod (y 0).val 512).symm]

/-- The largest magnitudes are the same array. -/
theorem am_eq (X : Vec Ideal S4x512x1024 .bf16) (g b : Vec Ideal S1024 .f32) (hX : S4x512x1024.ShapeCasts S2048x1024)
    (h2 : S1024.ShapeCasts Cert.KernelLnIdeal.S1x1024) (h3 : S1024.ShapeCasts S1x1x1024) :
    amAt (shapeCast S2048x1024 X hX) (shapeCast Cert.KernelLnIdeal.S1x1024 g h2) (shapeCast Cert.KernelLnIdeal.S1x1024 b h2)
      = amRef X (shapeCast S1x1x1024 g h3) (shapeCast S1x1x1024 b h3) := by
  funext y
  unfold amAt amRef
  rw [row_eq X g b hX h2 h3 (y 0) (y 1) _ rfl]

end Cert.ReferenceLnIdeal.LnValue
end
-- ==== Proof.MmBitsTrip.lean ====
/- One trip of the loop of the product kernel, and the loop by its invariant. -/
module

public import proofs.«01_k».proof.Proof.Gen.KernelMm.Frame
public import proofs.«01_k».proof.Proof.Gen.KernelMm.Launch
public import proofs.«01_k».proof.Proof.Gen.KernelMm.Skeleton
public import proofs.«01_k».proof.Proof.Gen.KernelMm.Loops
public import proofs.«01_k».proof.Proof.Gen.KernelMm.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelMm.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelMm.Gen

variable {F : FTy → Type} [FloatOps F]

local notation "𝕄" => MT nD τ sig Unit (Elt F) ℕ (UR sig nD τ) ℕ

/-- The buffers one trip touches: four inputs it reads, the output, and the two slots it reads and writes. -/
abbrev Held (c : Dev nD) (arg0 : Memref sig .tc .vmem S2048x1024 .fp8e4m3) (arg1 : Memref sig .tc .vmem S1024x2048 .fp8e4m3)
    (arg3 : Memref sig .tc .vmem S1x2048 .f32) (arg7 : Memref sig .tc .vmem S1x2048 .f32)
    (arg5 : Memref sig .tc .vmem S2048x1024 .f32)
    (X0 : BufTy.Contents (Elt F) arg0.view.ty) (X1 : BufTy.Contents (Elt F) arg1.view.ty)
    (X3 : BufTy.Contents (Elt F) arg3.view.ty) (X7 : BufTy.Contents (Elt F) arg7.view.ty)
    (f5 : BufTy.Contents (Elt F) arg5.view.ty) (f6 : BufTy.Contents (Elt F) cc0_scratch0.ty) : sProp 𝕄 :=
  iprop((arg0.view.loc (c : Thread nD τ) ↦[arg0.view.set]{fullShare} X0) ∗ (arg1.view.loc (c : Thread nD τ) ↦[arg1.view.set]{fullShare} X1)
    ∗ (arg3.view.loc (c : Thread nD τ) ↦[arg3.view.set]{fullShare} X3) ∗ (arg7.view.loc (c : Thread nD τ) ↦[arg7.view.set]{fullShare} X7)
    ∗ (arg5.view.loc (c : Thread nD τ) ↦[arg5.view.set]{fullShare} f5) ∗ ((Memref.whole cc0_scratch0 : Memref sig .tc .vmem S2x2336x128 .f32).view.loc (c : Thread nD τ) ↦{fullShare} f6))

set_option maxHeartbeats 4000000 in
/-- One trip: what it leaves in the two slots, and what it writes to the output, from what the slots held. -/
@[irreducible] def trip (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (X0 : BufTy.Contents (Elt F) arg0.view.ty) (X1 : BufTy.Contents (Elt F) arg1.view.ty)
    (X3 : BufTy.Contents (Elt F) arg3.view.ty) (X7 : BufTy.Contents (Elt F) arg7.view.ty)
    (f6 : BufTy.Contents (Elt F) cc0_scratch0.ty) (k : Fin k0_t1_loop.trips) :
    { p : BufTy.Contents (Elt F) cc0_scratch0.ty × List (View.Piece (Elt F) S2048x1024 .f32) //
      ∀ (E : Set ℕ) (f5 : BufTy.Contents (Elt F) arg5.view.ty),
        Held (F := F) c arg0 arg1 arg3 arg7 arg5 X0 X1 X3 X7 f5 f6
        ⊢ wp frame (wpE (defs₀ (F := F)) Variants.none (c : Thread nD τ) none) E (k0_t1_body (F := F) arg0 harg0 arg1 harg1 arg2 harg2 arg3 harg3 arg4 harg4 arg5 harg5 (Memref.whole cc0_scratch0) (Memref.isWhole_whole _) arg7 harg7 0#32 1#32 k PUnit.unit)
            (fun _ => Held (F := F) c arg0 arg1 arg3 arg7 arg5 X0 X1 X3 X7 (arg5.view.writes (Elt F) f5 p.2) p.1) } := by
  have hk : k.val < 7 := Nat.lt_of_lt_of_le k.isLt k0_t1_abs.2.1
  refine ⟨⟨?_, ?_⟩, fun E f5 => ?run⟩
  case run =>
    unfold k0_t1_body
    iintro ⟨H0, H1, H3, H7, H5, H6⟩
    sl_exec
    sl_step
    isplitl [H0]; · iexact H0
    isplitl [H1]; · iexact H1
    isplitl [H3]; · iexact H3
    isplitl [H7]; · iexact H7
    isplitl [H5]; · iexact H5
    iexact H6

/-- Trip `k`'s step of the state the loop carries: what the slots hold and what has been written to the output. -/
@[irreducible] def stStep (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (X0 : BufTy.Contents (Elt F) arg0.view.ty) (X1 : BufTy.Contents (Elt F) arg1.view.ty)
    (X3 : BufTy.Contents (Elt F) arg3.view.ty) (X7 : BufTy.Contents (Elt F) arg7.view.ty)
    (k : ℕ) (s : BufTy.Contents (Elt F) cc0_scratch0.ty × List (View.Piece (Elt F) S2048x1024 .f32)) :
    BufTy.Contents (Elt F) cc0_scratch0.ty × List (View.Piece (Elt F) S2048x1024 .f32) :=
  if h : k < k0_t1_loop.trips then
    ((trip (F := F) c arg0 harg0 arg1 harg1 arg2 harg2 arg3 harg3 arg4 harg4 arg5 harg5 arg7 harg7 X0 X1 X3 X7 s.1 ⟨k, h⟩).1.1, (trip (F := F) c arg0 harg0 arg1 harg1 arg2 harg2 arg3 harg3 arg4 harg4 arg5 harg5 arg7 harg7 X0 X1 X3 X7 s.1 ⟨k, h⟩).1.2 ++ s.2)
  else s

/-- The state before trip `k`, from what the slots held at the loop's entry. -/
def st (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (X0 : BufTy.Contents (Elt F) arg0.view.ty) (X1 : BufTy.Contents (Elt F) arg1.view.ty)
    (X3 : BufTy.Contents (Elt F) arg3.view.ty) (X7 : BufTy.Contents (Elt F) arg7.view.ty)
    (G6 : BufTy.Contents (Elt F) cc0_scratch0.ty) : ℕ → BufTy.Contents (Elt F) cc0_scratch0.ty × List (View.Piece (Elt F) S2048x1024 .f32)
  | 0 => (G6, [])
  | k + 1 => stStep c arg0 harg0 arg1 harg1 arg2 harg2 arg3 harg3 arg4 harg4 arg5 harg5 arg7 harg7 X0 X1 X3 X7 k (st c arg0 harg0 arg1 harg1 arg2 harg2 arg3 harg3 arg4 harg4 arg5 harg5 arg7 harg7 X0 X1 X3 X7 G6 k)

theorem st_succ (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (X0 : BufTy.Contents (Elt F) arg0.view.ty) (X1 : BufTy.Contents (Elt F) arg1.view.ty)
    (X3 : BufTy.Contents (Elt F) arg3.view.ty) (X7 : BufTy.Contents (Elt F) arg7.view.ty)
    (G6 : BufTy.Contents (Elt F) cc0_scratch0.ty) (k : Fin k0_t1_loop.trips) :
    st (F := F) c arg0 harg0 arg1 harg1 arg2 harg2 arg3 harg3 arg4 harg4 arg5 harg5 arg7 harg7 X0 X1 X3 X7 G6 (k.val + 1)
      = ((trip (F := F) c arg0 harg0 arg1 harg1 arg2 harg2 arg3 harg3 arg4 harg4 arg5 harg5 arg7 harg7 X0 X1 X3 X7 (st (F := F) c arg0 harg0 arg1 harg1 arg2 harg2 arg3 harg3 arg4 harg4 arg5 harg5 arg7 harg7 X0 X1 X3 X7 G6 k.val).1 k).1.1,
        (trip (F := F) c arg0 harg0 arg1 harg1 arg2 harg2 arg3 harg3 arg4 harg4 arg5 harg5 arg7 harg7 X0 X1 X3 X7 (st (F := F) c arg0 harg0 arg1 harg1 arg2 harg2 arg3 harg3 arg4 harg4 arg5 harg5 arg7 harg7 X0 X1 X3 X7 G6 k.val).1 k).1.2
          ++ (st (F := F) c arg0 harg0 arg1 harg1 arg2 harg2 arg3 harg3 arg4 harg4 arg5 harg5 arg7 harg7 X0 X1 X3 X7 G6 k.val).2) := by
  rw [st.eq_2]; unfold stStep; exact dif_pos k.isLt

/-- What the loop keeps: before trip `k` the buffers hold the state `st` says. -/
abbrev Inv (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (X0 : BufTy.Contents (Elt F) arg0.view.ty) (X1 : BufTy.Contents (Elt F) arg1.view.ty)
    (X3 : BufTy.Contents (Elt F) arg3.view.ty) (X7 : BufTy.Contents (Elt F) arg7.view.ty)
    (G5 : BufTy.Contents (Elt F) arg5.view.ty) (G6 : BufTy.Contents (Elt F) cc0_scratch0.ty) (k : ℕ) (_u : PUnit) : sProp 𝕄 :=
  iprop((arg0.view.loc (c : Thread nD τ) ↦[arg0.view.set]{fullShare} X0) ∗ (arg1.view.loc (c : Thread nD τ) ↦[arg1.view.set]{fullShare} X1) ∗ (arg3.view.loc (c : Thread nD τ) ↦[arg3.view.set]{fullShare} X3) ∗ (arg7.view.loc (c : Thread nD τ) ↦[arg7.view.set]{fullShare} X7)
      ∗ (∃ f5, (arg5.view.loc (c : Thread nD τ) ↦[arg5.view.set]{fullShare} f5) ∗ ⌜f5 = arg5.view.writes (Elt F) G5 (st (F := F) c arg0 harg0 arg1 harg1 arg2 harg2 arg3 harg3 arg4 harg4 arg5 harg5 arg7 harg7 X0 X1 X3 X7 G6 k).2⌝)
      ∗ (∃ f6, ((Memref.whole cc0_scratch0 : Memref sig .tc .vmem S2x2336x128 .f32).view.loc (c : Thread nD τ) ↦{fullShare} f6) ∗ ⌜f6 = (st (F := F) c arg0 harg0 arg1 harg1 arg2 harg2 arg3 harg3 arg4 harg4 arg5 harg5 arg7 harg7 X0 X1 X3 X7 G6 k).1⌝))

set_option warn.classDefReducibility false in
/-- The loop by its invariant: before trip `k` the buffers hold the state `st` says. -/
@[sl_loop] def loopInv (c : Dev nD) (E : Set ℕ) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (X0 : BufTy.Contents (Elt F) arg0.view.ty) (X1 : BufTy.Contents (Elt F) arg1.view.ty)
    (X3 : BufTy.Contents (Elt F) arg3.view.ty) (X7 : BufTy.Contents (Elt F) arg7.view.ty)
    (G5 : BufTy.Contents (Elt F) arg5.view.ty) (G6 : BufTy.Contents (Elt F) cc0_scratch0.ty) :
    LoopInvTy_k0_t1 (F := F) Unit ℕ (UR sig nD τ) ℕ Variants.none c none E arg0 harg0 arg1 harg1 arg2 harg2 arg3 harg3 arg4 harg4 arg5 harg5 (Memref.whole cc0_scratch0) (Memref.isWhole_whole _) arg7 harg7 0#32 1#32 where
  inv := Inv (F := F) c arg0 harg0 arg1 harg1 arg2 harg2 arg3 harg3 arg4 harg4 arg5 harg5 arg7 harg7 X0 X1 X3 X7 G5 G6
  step k acc := by
    iintro ⟨H0, H1, H3, H7, ⟨%f5, H5, %h5⟩, ⟨%f6, H6, %h6⟩⟩
    obtain rfl := h5; obtain rfl := h6
    iapply (wp_wand_r Idealize.ShloMosaic.frame (wpE (defs₀ (F := F)) Variants.none (c : Thread nD τ) none) E)
    isplitl [H0 H1 H3 H7 H5 H6]
    · iapply ((trip (F := F) c arg0 harg0 arg1 harg1 arg2 harg2 arg3 harg3 arg4 harg4 arg5 harg5 arg7 harg7 X0 X1 X3 X7 (st (F := F) c arg0 harg0 arg1 harg1 arg2 harg2 arg3 harg3 arg4 harg4 arg5 harg5 arg7 harg7 X0 X1 X3 X7 G6 k.val).1 k).2 E _)
      isplitl [H0]; · iexact H0
      isplitl [H1]; · iexact H1
      isplitl [H3]; · iexact H3
      isplitl [H7]; · iexact H7
      isplitl [H5]; · iexact H5
      iexact H6
    · iintro %_ ⟨H0, H1, H3, H7, H5, H6⟩
      unfold Inv; rw [st_succ]
      isplitl [H0]; · iexact H0
      isplitl [H1]; · iexact H1
      isplitl [H3]; · iexact H3
      isplitl [H7]; · iexact H7
      isplitl [H5]
      · iexists _; isplitl [H5]; · iexact H5
        ipureintro; rw [← View.writes_append]
      iexists _; isplitl [H6]; · iexact H6
      ipureintro; rfl

end Cert.KernelMm.Mm

end
-- ==== Proof.MmBitsRun.lean ====
/- The whole body of the product kernel, run through its loop. -/
module

public import proofs.«01_k».proof.Proof.Gen.KernelMm.Frame
public import proofs.«01_k».proof.Proof.MmBitsTrip
public import proofs.«01_k».proof.Proof.Gen.KernelMm.Launch
public import proofs.«01_k».proof.Proof.Gen.KernelMm.Skeleton
public import proofs.«01_k».proof.Proof.Gen.KernelMm.Loops
public import proofs.«01_k».proof.Proof.Gen.KernelMm.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelMm.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelMm.Gen

variable {F : FTy → Type} [FloatOps F]

local notation "𝕄" => MT nD τ sig Unit (Elt F) ℕ (UR sig nD τ) ℕ

set_option maxHeartbeats 4000000 in
/-- The whole body: the pieces it writes to the output, from what the slots held before. -/
def run (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (x0 : Vec F S2048x1024 .fp8e4m3) (x1 : Vec F S1024x2048 .fp8e4m3) (x2 : Vec F S1x2048 .f32) (x3 : Vec F S1x2048 .f32) (x4 : Vec F S1x1 .f32)
    (g6 : BufTy.Contents (Elt F) cc0_scratch0.ty) :
    { L5 : List (View.Piece (Elt F) S2048x1024 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
            ∗ ((Memref.whole cc0_scratch0 : Memref sig .tc .vmem S2x2336x128 .f32).view.loc (c : Thread nD τ) ↦{fullShare} g6) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5)
              ∗ (∃ f, (Memref.whole cc0_scratch0 : Memref sig .tc .vmem S2x2336x128 .f32).view.loc (c : Thread nD τ) ↦{fullShare} f) ∗ (∃ d, owns (c : Thread nD τ) arg7 fullShare d)) -∗ K ⟨⟩))
          ⊢ wp frame (wpE (defs₀ (F := F)) Variants.none c none) E (cc0_conformer_conv_mm arg0 harg0 arg1 harg1 arg2 harg2 arg3 harg3 arg4 harg4 arg5 harg5 (Memref.whole cc0_scratch0) (Memref.isWhole_whole _) arg7 harg7) K } := by
  refine ⟨?_, fun E K => ?run⟩
  case run =>
    rw [cc0_conformer_conv_mm_eq_skeleton]; unfold cc0_conformer_conv_mm_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, H6, ⟨%ds1, %fs1, -, H7⟩, Hk⟩
    obtain rfl := harg0.eq_unread hf0; obtain rfl := harg1.eq_unread hf1; obtain rfl := harg2.eq_unread hf2; obtain rfl := harg3.eq_unread hf3; obtain rfl := harg4.eq_unread hf4
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _, _; isplitr; swap; · iexact H7
    ipureintro; rfl

end Cert.KernelMm.Mm

end
-- ==== Proof.MmBitsSlots.lean ====
/- What a store or a load through one of the two slots does to the elements of the scratch buffer. -/
module

public import proofs.«01_k».proof.Proof.MmBitsRun
public import Idealize.ShloMosaic.Lib.Pointwise
public import Idealize.ShloMosaic.Lib.ValueLayout

@[expose] public section

set_option maxRecDepth 16384

noncomputable section

namespace Cert.KernelMm.Mm

open Idealize.ShloMosaic Idealize.ShloMosaic.TcCoe Idealize.ShloMosaic.Tactic
open Idealize.SL.Sem
open Cert.KernelMm Cert.KernelMm.Gen

variable {F : FTy → Type} [FloatOps F]

/-- The rows `R … R + n - 1` of one slot. -/
abbrev slotV (off : Fin 3 → ℕ) (p1 : ∀ a, off a + S1x2336x128.size a ≤ S2x2336x128.size a)
    (p2 : ∀ a, (Rect.unit (s := S2x2336x128) off S1x2336x128.size p1).stride a = 1) (R n : ℕ)
    (inb : ∀ a, (![R, 0] : Fin 2 → ℕ) a + (![n, 128] : Fin 2 → ℕ) a ≤ S2336x128.size a) :=
  ((((Memref.whole cc0_scratch0 : Memref sig .tc .vmem S2x2336x128 .f32).slice (Rect.unit (s := S2x2336x128) off S1x2336x128.size p1) p2).squeeze S2336x128
      squeezes_S1x2336x128_S2336x128).access (Rect.unit (s := S2336x128) ![R, 0] ![n, 128] inb))

theorem slot_emb (off : Fin 3 → ℕ) (p1 : ∀ a, off a + S1x2336x128.size a ≤ S2x2336x128.size a)
    (p2 : ∀ a, (Rect.unit (s := S2x2336x128) off S1x2336x128.size p1).stride a = 1) (R n : ℕ)
    (inb : ∀ a, (![R, 0] : Fin 2 → ℕ) a + (![n, 128] : Fin 2 → ℕ) a ≤ S2336x128.size a)
    (s : ℕ) (hs : s < 2) (hoff : off = ![s, 0, 0]) (a : Fin n) (l : Fin 128) (hr : R + a.val < 2336) :
    (slotV off p1 p2 R n inb).emb (ix2 a l) = (ix3 (⟨s, hs⟩ : Fin 2) (⟨R + a.val, hr⟩ : Fin 2336) l : S2x2336x128.Idx) := by
  subst hoff
  have e : (Rect.unit (s := S2336x128) ![R, 0] ![n, 128] inb).emb (ix2 a l) = ix2 (⟨R + a.val, hr⟩ : Fin 2336) l := by
    funext b
    apply Fin.ext
    match b with
    | ⟨0, _⟩ => show R + 1 * a.val = R + a.val; rw [Nat.one_mul]
    | ⟨1, _⟩ => show 0 + 1 * l.val = l.val; rw [Nat.one_mul, Nat.zero_add]
  show (Rect.unit (s := S2x2336x128) ![s, 0, 0] S1x2336x128.size p1).emb
    (Shape.reshapeEquiv _ ((Rect.unit (s := S2336x128) ![R, 0] ![n, 128] inb).emb (ix2 a l))) = _
  rw [e]
  refine (congrArg _ (ValueIdx.reshapeEquiv_ix2_1ab (a := 2336) (b := 128) _ _ _)).trans ?_
  funext b
  apply Fin.ext
  match b with
  | ⟨0, _⟩ => show s + 1 * 0 = s; rfl
  | ⟨1, _⟩ => show 0 + 1 * (R + a.val) = R + a.val; rw [Nat.one_mul, Nat.zero_add]
  | ⟨2, _⟩ => show 0 + 1 * l.val = l.val; rw [Nat.one_mul, Nat.zero_add]

theorem slot_inb {R n : ℕ} (inb : ∀ a, (![R, 0] : Fin 2 → ℕ) a + (![n, 128] : Fin 2 → ℕ) a ≤ S2336x128.size a) : R + n ≤ 2336 := inb 0

/-- A store of `n` rows at row `R` of slot `s`: those rows take the payload, -/
theorem slot_write_hit (off : Fin 3 → ℕ) (p1 : ∀ a, off a + S1x2336x128.size a ≤ S2x2336x128.size a)
    (p2 : ∀ a, (Rect.unit (s := S2x2336x128) off S1x2336x128.size p1).stride a = 1) (R n : ℕ)
    (inb : ∀ a, (![R, 0] : Fin 2 → ℕ) a + (![n, 128] : Fin 2 → ℕ) a ≤ S2336x128.size a)
    (s : ℕ) (hoff : off = ![s, 0, 0]) (f : S2x2336x128.Idx → Elt F .f32) (w : (⟨2, ![n, 128]⟩ : Shape).Idx → Elt F .f32)
    (q : Fin 2) (r : Fin 2336) (l : Fin 128) (a : Fin n) (hq : q.val = s) (hr : r.val = R + a.val) :
    (View.write (Elt F) (slotV off p1 p2 R n inb) f w Finset.univ : S2x2336x128.Idx → Elt F .f32) (ix3 q r l) = w (ix2 a l) := by
  have hs : s < 2 := hq ▸ q.isLt
  have hlt : R + a.val < 2336 := hr ▸ r.isLt
  have e : (ix3 q r l : S2x2336x128.Idx) = (slotV off p1 p2 R n inb).emb (ix2 a l) := by
    rw [slot_emb off p1 p2 R n inb s hs hoff a l hlt]
    congr 1
    · exact Fin.ext hq
    · exact Fin.ext hr
  rw [e]
  exact View.write_emb_of_mem _ _ (Finset.mem_univ _)

/-- and every other row keeps what it held. -/
theorem slot_write_miss (off : Fin 3 → ℕ) (p1 : ∀ a, off a + S1x2336x128.size a ≤ S2x2336x128.size a)
    (p2 : ∀ a, (Rect.unit (s := S2x2336x128) off S1x2336x128.size p1).stride a = 1) (R n : ℕ)
    (inb : ∀ a, (![R, 0] : Fin 2 → ℕ) a + (![n, 128] : Fin 2 → ℕ) a ≤ S2336x128.size a)
    (s : ℕ) (hs : s < 2) (hoff : off = ![s, 0, 0]) (f : S2x2336x128.Idx → Elt F .f32) (w : (⟨2, ![n, 128]⟩ : Shape).Idx → Elt F .f32)
    (q : Fin 2) (r : Fin 2336) (l : Fin 128) (h : ¬ (q.val = s ∧ R ≤ r.val ∧ r.val < R + n)) :
    (View.write (Elt F) (slotV off p1 p2 R n inb) f w Finset.univ : S2x2336x128.Idx → Elt F .f32) (ix3 q r l) = f (ix3 q r l) := by
  refine View.write_of_not_mem _ _ _ ?_
  intro hm
  unfold View.setOn at hm
  obtain ⟨x, -, hx⟩ := Finset.mem_map.mp hm
  have hn := slot_inb inb
  have hxe : x = ix2 (x 0 : Fin n) (x 1 : Fin 128) := eq_ix2 x
  rw [hxe] at hx
  have hx' := (slot_emb off p1 p2 R n inb s hs hoff (x 0) (x 1) (by have h0 : (x 0 : Fin n).val < n := (x 0).isLt; omega)).symm.trans hx
  apply h
  have h0 : s = q.val := congrArg Fin.val (congrFun hx' 0)
  have h1 : R + (x 0 : Fin n).val = r.val := congrArg Fin.val (congrFun hx' 1)
  have h2 : (x 0 : Fin n).val < n := (x 0).isLt
  omega

/-- A load of `n` rows at row `R` of slot `s` reads those rows. -/
theorem slot_read (off : Fin 3 → ℕ) (p1 : ∀ a, off a + S1x2336x128.size a ≤ S2x2336x128.size a)
    (p2 : ∀ a, (Rect.unit (s := S2x2336x128) off S1x2336x128.size p1).stride a = 1) (R n : ℕ)
    (inb : ∀ a, (![R, 0] : Fin 2 → ℕ) a + (![n, 128] : Fin 2 → ℕ) a ≤ S2336x128.size a)
    (s : ℕ) (hs : s < 2) (hoff : off = ![s, 0, 0]) (f : S2x2336x128.Idx → Elt F .f32) (a : Fin n) (l : Fin 128) (hlt : R + a.val < 2336) :
    View.readAt (Elt F) (((Memref.whole cc0_scratch0 : Memref sig .tc .vmem S2x2336x128 .f32).slice (Rect.unit (s := S2x2336x128) off S1x2336x128.size p1) p2).squeeze S2336x128
      squeezes_S1x2336x128_S2336x128).view (Rect.unit (s := S2336x128) ![R, 0] ![n, 128] inb).toLoadRect f (ix2 a l)
      = f (ix3 (⟨s, hs⟩ : Fin 2) (⟨R + a.val, hlt⟩ : Fin 2336) l) :=
  congrArg f (slot_emb off p1 p2 R n inb s hs hoff a l hlt)

/-- The first row of block `i` of 128 rows in a slot: two blocks to a batch, the batches 292 rows apart. -/
abbrev row (i : ℕ) : ℕ := 292 * (i / 2) + 16 + 128 * (i % 2)

/-- The first `n` blocks of slot `s` hold `G`. -/
def Done (G : ℕ → FVec F S128x128 .f32) (s n : ℕ) (f : S2x2336x128.Idx → Elt F .f32) : Prop :=
  ∀ i < n, ∀ (a l : Fin 128) (q : Fin 2) (r : Fin 2336), q.val = s → r.val = row i + a.val → f (ix3 q r l) = G i (ix2 a l)

/-- Storing block `n` extends them by one, -/
theorem Done.data {G : ℕ → FVec F S128x128 .f32} {s n : ℕ} {f : S2x2336x128.Idx → Elt F .f32} (h : Done G s n f)
    {off : Fin 3 → ℕ} {p1 : ∀ a, off a + S1x2336x128.size a ≤ S2x2336x128.size a}
    {p2 : ∀ a, (Rect.unit (s := S2x2336x128) off S1x2336x128.size p1).stride a = 1} {R : ℕ}
    {inb : ∀ a, (![R, 0] : Fin 2 → ℕ) a + (![128, 128] : Fin 2 → ℕ) a ≤ S2336x128.size a}
    (hs : s < 2) (hoff : off = ![s, 0, 0]) (hR : R = row n) {w : S128x128.Idx → Elt F .f32} (hw : w = G n) :
    Done G s (n + 1) (View.write (Elt F) (slotV off p1 p2 R 128 inb) f w Finset.univ) := by
  intro i hi a l q r hq hr
  by_cases hin : i = n
  · subst hin
    rw [slot_write_hit off p1 p2 R 128 inb s hoff f w q r l a hq (by rw [hr, hR]), hw]
  · rw [slot_write_miss off p1 p2 R 128 inb s hs hoff f w q r l (by
      have := a.isLt
      unfold row at hr hR
      omega)]
    exact h i (by omega) a l q r hq hr

/-- storing a halo of 16 rows leaves them, -/
theorem Done.halo {G : ℕ → FVec F S128x128 .f32} {s n : ℕ} {f : S2x2336x128.Idx → Elt F .f32} (h : Done G s n f)
    {off : Fin 3 → ℕ} {p1 : ∀ a, off a + S1x2336x128.size a ≤ S2x2336x128.size a}
    {p2 : ∀ a, (Rect.unit (s := S2x2336x128) off S1x2336x128.size p1).stride a = 1} {R : ℕ}
    {inb : ∀ a, (![R, 0] : Fin 2 → ℕ) a + (![16, 128] : Fin 2 → ℕ) a ≤ S2336x128.size a}
    (hs : s < 2) (hoff : off = ![s, 0, 0]) (hR : R % 292 = 0 ∨ R % 292 = 272) {w : S16x128.Idx → Elt F .f32} :
    Done G s n (View.write (Elt F) (slotV off p1 p2 R 16 inb) f w Finset.univ) := by
  intro i hi a l q r hq hr
  rw [slot_write_miss off p1 p2 R 16 inb s hs hoff f w q r l (by
      have := a.isLt
      unfold row at hr
      rcases Nat.lt_trichotomy (R / 292) (i / 2) with hc | hc | hc <;> rcases hR with hR | hR <;> omega)]
  exact h i hi a l q r hq hr

/-- and so does any store into the other slot. -/
theorem Done.other {G : ℕ → FVec F S128x128 .f32} {s n : ℕ} {f : S2x2336x128.Idx → Elt F .f32} (h : Done G s n f)
    {off : Fin 3 → ℕ} {p1 : ∀ a, off a + S1x2336x128.size a ≤ S2x2336x128.size a}
    {p2 : ∀ a, (Rect.unit (s := S2x2336x128) off S1x2336x128.size p1).stride a = 1} {R k : ℕ}
    {inb : ∀ a, (![R, 0] : Fin 2 → ℕ) a + (![k, 128] : Fin 2 → ℕ) a ≤ S2336x128.size a}
    (s' : ℕ) (hs : s' < 2) (hne : s ≠ s') (hoff : off = ![s', 0, 0]) {w : (⟨2, ![k, 128]⟩ : Shape).Idx → Elt F .f32} :
    Done G s n (View.write (Elt F) (slotV off p1 p2 R k inb) f w Finset.univ) := by
  intro i hi a l q r hq hr
  rw [slot_write_miss off p1 p2 R k inb s' hs hoff f w q r l (by omega)]
  exact h i hi a l q r hq hr

/-! ## The operands' blocks -/

/-- Rows `128 i …` of the codes. -/
def blkX (x : Vec F S2048x1024 .fp8e4m3) (i : ℕ) : Vec F S128x1024 .fp8e4m3 := fun z =>
  x (ix2 ⟨(128 * i + (z 0 : Fin 128).val) % 2048, Nat.mod_lt _ (by decide)⟩ (z 1))
/-- Columns `o …` of the weights. -/
def blkW (x : Vec F S1024x2048 .fp8e4m3) (o : ℕ) : Vec F S1024x128 .fp8e4m3 := fun z =>
  x (ix2 (z 0) ⟨(o + (z 1 : Fin 128).val) % 2048, Nat.mod_lt _ (by decide)⟩)
/-- Columns `o …` of a row. -/
def blkR (x : Vec F S1x2048 .f32) (o : ℕ) : Vec F S1x128 .f32 := fun z =>
  x (ix2 (z 0) ⟨(o + (z 1 : Fin 128).val) % 2048, Nat.mod_lt _ (by decide)⟩)

/-- Block `i` of 128 rows of column block `c` of the gated product. -/
def H (x0 : Vec F S2048x1024 .fp8e4m3) (x1 : Vec F S1024x2048 .fp8e4m3) (sc b : Vec F S1x2048 .f32) (c i : ℕ) : FVec F S128x128 .f32 :=
  k0_pay6 (k0_pay1 (blkW x1 (128 * c)) (blkW x1 (1024 + 128 * c))) (blkR sc (128 * c)) (blkR sc (1024 + 128 * c))
    (k0_pay2 (blkR b (128 * c))) (k0_pay3 (blkR b (1024 + 128 * c))) (blkX x0 i)

/-- The gated product. -/
def hAt (x0 : Vec F S2048x1024 .fp8e4m3) (x1 : Vec F S1024x2048 .fp8e4m3) (sc b : Vec F S1x2048 .f32) : Vec F S2048x1024 .f32 := fun y =>
  H x0 x1 sc b ((y 1 : Fin 1024).val / 128) ((y 0 : Fin 2048).val / 128)
    (ix2 ⟨(y 0 : Fin 2048).val % 128, Nat.mod_lt _ (by decide)⟩ ⟨(y 1 : Fin 1024).val % 128, Nat.mod_lt _ (by decide)⟩)

theorem rdX (v : View sig .tc .vmem S2048x1024 .fp8e4m3) (X : BufTy.Contents (Elt F) v.ty) (off : Fin 2 → ℕ) (i : ℕ) (hoff : off = ![128 * i, 0])
    (inb : ∀ a, off a + S128x1024.size a ≤ S2048x1024.size a) :
    View.readAt (Elt F) v (Rect.unit (s := S2048x1024) off S128x1024.size inb).toLoadRect X = blkX (v.read (Elt F) X) i := by
  subst hoff
  funext z
  refine congrArg (v.read (Elt F) X) ?_
  have h : 128 * i + 128 ≤ 2048 := inb 0
  have h0 : (z 0 : Fin 128).val < 128 := (z 0).isLt
  funext a
  apply Fin.ext
  match a with
  | ⟨0, _⟩ => show 128 * i + 1 * (z 0 : Fin 128).val = (128 * i + (z 0 : Fin 128).val) % 2048; omega
  | ⟨1, _⟩ => show 0 + 1 * (z 1 : Fin 1024).val = (z 1 : Fin 1024).val; omega

theorem rdW (v : View sig .tc .vmem S1024x2048 .fp8e4m3) (X : BufTy.Contents (Elt F) v.ty) (off : Fin 2 → ℕ) (o : ℕ) (hoff : off = ![0, o])
    (inb : ∀ a, off a + S1024x128.size a ≤ S1024x2048.size a) :
    View.readAt (Elt F) v (Rect.unit (s := S1024x2048) off S1024x128.size inb).toLoadRect X = blkW (v.read (Elt F) X) o := by
  subst hoff
  funext z
  refine congrArg (v.read (Elt F) X) ?_
  have h : o + 128 ≤ 2048 := inb 1
  have h1 : (z 1 : Fin 128).val < 128 := (z 1).isLt
  funext a
  apply Fin.ext
  match a with
  | ⟨0, _⟩ => show 0 + 1 * (z 0 : Fin 1024).val = (z 0 : Fin 1024).val; omega
  | ⟨1, _⟩ => show o + 1 * (z 1 : Fin 128).val = (o + (z 1 : Fin 128).val) % 2048; omega

theorem rdR (v : View sig .tc .vmem S1x2048 .f32) (X : BufTy.Contents (Elt F) v.ty) (off : Fin 2 → ℕ) (o : ℕ) (hoff : off = ![0, o])
    (inb : ∀ a, off a + S1x128.size a ≤ S1x2048.size a) :
    View.readAt (Elt F) v (Rect.unit (s := S1x2048) off S1x128.size inb).toLoadRect X = blkR (v.read (Elt F) X) o := by
  subst hoff
  funext z
  refine congrArg (v.read (Elt F) X) ?_
  have h : o + 128 ≤ 2048 := inb 1
  have h1 : (z 1 : Fin 128).val < 128 := (z 1).isLt
  funext a
  apply Fin.ext
  match a with
  | ⟨0, _⟩ => show 0 + 1 * (z 0 : Fin 1).val = (z 0 : Fin 1).val; omega
  | ⟨1, _⟩ => show o + 1 * (z 1 : Fin 128).val = (o + (z 1 : Fin 128).val) % 2048; omega

theorem off1_eq : ∀ k : Fin k0_t1_loop.trips, k0_off1 k = ![0, 128 * (k.val + 1)] := by decide +kernel
theorem off2_eq : ∀ k : Fin k0_t1_loop.trips, k0_off2 k = ![0, 1024 + 128 * (k.val + 1)] := by decide +kernel
theorem off3_eq : ∀ k : Fin k0_t1_loop.trips, k0_off3 k = ![0, 128 * (k.val + 1)] := by decide +kernel
theorem off4_eq : ∀ k : Fin k0_t1_loop.trips, k0_off4 k = ![0, 1024 + 128 * (k.val + 1)] := by decide +kernel
theorem off5_eq : ∀ k : Fin k0_t1_loop.trips, k0_off5 k = ![(k.val + 1) % 2, 0, 0] := by decide +kernel
theorem off6_eq : ∀ k : Fin k0_t1_loop.trips, k0_off6 k = ![k.val % 2, 0, 0] := by decide +kernel
theorem off7_eq : ∀ k : Fin k0_t1_loop.trips, k0_off7 k = ![256 * 0, 128 * k.val] := by decide +kernel
theorem off8_eq : ∀ k : Fin k0_t1_loop.trips, k0_off8 k = ![256 * 1, 128 * k.val] := by decide +kernel
theorem off9_eq : ∀ k : Fin k0_t1_loop.trips, k0_off9 k = ![256 * 2, 128 * k.val] := by decide +kernel
theorem off10_eq : ∀ k : Fin k0_t1_loop.trips, k0_off10 k = ![256 * 3, 128 * k.val] := by decide +kernel
theorem off11_eq : ∀ k : Fin k0_t1_loop.trips, k0_off11 k = ![256 * 4, 128 * k.val] := by decide +kernel
theorem off12_eq : ∀ k : Fin k0_t1_loop.trips, k0_off12 k = ![256 * 5, 128 * k.val] := by decide +kernel
theorem off13_eq : ∀ k : Fin k0_t1_loop.trips, k0_off13 k = ![256 * 6, 128 * k.val] := by decide +kernel
theorem off14_eq : ∀ k : Fin k0_t1_loop.trips, k0_off14 k = ![256 * 7, 128 * k.val] := by decide +kernel

/-- Rows `R …` of a finished slot, `R` the first row of batch half `j`, are the rows `256 j …` of the gated product. -/
theorem export_eq (x0 : Vec F S2048x1024 .fp8e4m3) (x1 : Vec F S1024x2048 .fp8e4m3) (sc b : Vec F S1x2048 .f32) {s c : ℕ}
    {f : S2x2336x128.Idx → Elt F .f32} (h : Done (H x0 x1 sc b c) s 16 f)
    (off : Fin 3 → ℕ) (p1 : ∀ a, off a + S1x2336x128.size a ≤ S2x2336x128.size a)
    (p2 : ∀ a, (Rect.unit (s := S2x2336x128) off S1x2336x128.size p1).stride a = 1) (R j : ℕ) (hj : j < 8) (hR : R = 292 * j + 16)
    (inb : ∀ a, (![R, 0] : Fin 2 → ℕ) a + (![256, 128] : Fin 2 → ℕ) a ≤ S2336x128.size a)
    (hs : s < 2) (hoff : off = ![s, 0, 0]) (off' : Fin 2 → ℕ) (hoff' : off' = ![256 * j, 128 * c])
    (inb' : ∀ a, off' a + S256x128.size a ≤ S2048x1024.size a) (z : S256x128.Idx) :
    View.readAt (Elt F) (((Memref.whole cc0_scratch0 : Memref sig .tc .vmem S2x2336x128 .f32).slice (Rect.unit (s := S2x2336x128) off S1x2336x128.size p1) p2).squeeze S2336x128
      squeezes_S1x2336x128_S2336x128).view (Rect.unit (s := S2336x128) ![R, 0] ![256, 128] inb).toLoadRect f z
      = hAt x0 x1 sc b ((Rect.unit (s := S2048x1024) off' S256x128.size inb').emb z) := by
  subst hoff'
  have h0 : (z 0 : Fin 256).val < 256 := (z 0).isLt
  have h1 : (z 1 : Fin 128).val < 128 := (z 1).isLt
  have hz : z = ix2 (z 0 : Fin 256) (z 1 : Fin 128) := eq_ix2 z
  have hlt : R + (z 0 : Fin 256).val < 2336 := by omega
  have hn := slot_read (F := F) off p1 p2 R 256 inb s hs hoff f (z 0) (z 1) hlt
  have hd := h (2 * j + (z 0 : Fin 256).val / 128) (by omega) ⟨(z 0 : Fin 256).val % 128, Nat.mod_lt _ (by decide)⟩ (z 1) ⟨s, hs⟩
    ⟨R + (z 0 : Fin 256).val, hlt⟩ rfl (by
      show R + (z 0 : Fin 256).val = row (2 * j + (z 0 : Fin 256).val / 128) + (z 0 : Fin 256).val % 128
      unfold row; omega)
  have e1 : (128 * c + 1 * (z 1 : Fin 128).val) / 128 = c := by omega
  have e0 : (256 * j + 1 * (z 0 : Fin 256).val) / 128 = 2 * j + (z 0 : Fin 256).val / 128 := by omega
  have e2 : (⟨(256 * j + 1 * (z 0 : Fin 256).val) % 128, Nat.mod_lt _ (by decide)⟩ : Fin 128) = ⟨(z 0 : Fin 256).val % 128, Nat.mod_lt _ (by decide)⟩ :=
    Fin.ext (by show (256 * j + 1 * (z 0 : Fin 256).val) % 128 = (z 0 : Fin 256).val % 128; omega)
  have e3 : (⟨(128 * c + 1 * (z 1 : Fin 128).val) % 128, Nat.mod_lt _ (by decide)⟩ : Fin 128) = z 1 :=
    Fin.ext (by show (128 * c + 1 * (z 1 : Fin 128).val) % 128 = (z 1 : Fin 128).val; omega)
  rw [hz]
  refine (hn.trans hd).trans ?_
  show _ = H x0 x1 sc b ((128 * c + 1 * (z 1 : Fin 128).val) / 128) ((256 * j + 1 * (z 0 : Fin 256).val) / 128)
    (ix2 ⟨(256 * j + 1 * (z 0 : Fin 256).val) % 128, _⟩ ⟨(128 * c + 1 * (z 1 : Fin 128).val) % 128, _⟩)
  rw [e0, e1, e2, e3]

end Cert.KernelMm.Mm

end
-- ==== Proof.MmBitsLoop.lean ====
/- What the loop of the product kernel leaves: one slot holds the next column of the gated product, the output the columns before. -/
module

public import proofs.«01_k».proof.Proof.MmBitsSlots

@[expose] public section

set_option maxRecDepth 16384

noncomputable section

namespace Cert.KernelMm.Mm

open Idealize.ShloMosaic Idealize.ShloMosaic.TcCoe Idealize.ShloMosaic.Tactic
open Idealize.SL.Sem
open Cert.KernelMm Cert.KernelMm.Gen

variable {F : FTy → Type} [FloatOps F]

section
variable (arg0 : Memref sig .tc .vmem S2048x1024 .fp8e4m3) (arg1 : Memref sig .tc .vmem S1024x2048 .fp8e4m3)
  (arg3 arg7 : Memref sig .tc .vmem S1x2048 .f32) (X0 : BufTy.Contents (Elt F) arg0.view.ty) (X1 : BufTy.Contents (Elt F) arg1.view.ty)
  (X3 : BufTy.Contents (Elt F) arg3.view.ty) (X7 : BufTy.Contents (Elt F) arg7.view.ty)

/-- The gated product of what the buffers hold. -/
abbrev HX (c i : ℕ) : FVec F S128x128 .f32 :=
  H (arg0.view.read (Elt F) X0) (arg1.view.read (Elt F) X1) (arg7.view.read (Elt F) X7) (arg3.view.read (Elt F) X3) c i

variable (k : Fin k0_t1_loop.trips)

theorem trip_pay (i : ℕ) (inb : ∀ a, (![128 * i, 0] : Fin 2 → ℕ) a + S128x1024.size a ≤ S2048x1024.size a) :
    k0_pay6 (trip.sl.r arg1 X1 k) (trip.sl.r_1 arg7 X7 k) (trip.sl.r_2 arg7 X7 k) (trip.sl.r_3 arg3 X3 k) (trip.sl.r_4 arg3 X3 k)
      (View.readAt (Elt F) arg0.view (Rect.unit (s := S2048x1024) ![128 * i, 0] S128x1024.size inb).toLoadRect X0)
      = HX arg0 arg1 arg3 arg7 X0 X1 X3 X7 (k.val + 1) i := by
  unfold trip.sl.r trip.sl.r_1 trip.sl.r_2 trip.sl.r_3 trip.sl.r_4
  rw [rdX _ _ _ i rfl, rdW _ _ _ _ (off1_eq k), rdW _ _ _ _ (off2_eq k), rdR _ _ _ _ (off3_eq k), rdR _ _ _ _ (off4_eq k),
    rdR _ _ _ _ (off3_eq k), rdR _ _ _ _ (off4_eq k)]
  rfl

variable (f6 : BufTy.Contents (Elt F) cc0_scratch0.ty)

theorem trip_w1 : Done (HX arg0 arg1 arg3 arg7 X0 X1 X3 X7 (k.val + 1)) ((k.val + 1) % 2) 1 (trip.sl.H6_w1 arg0 arg1 arg3 arg7 X0 X1 X3 X7 f6 k) := by
  unfold trip.sl.H6_w1
  exact Done.data (n := 0) (fun i hi => absurd hi (Nat.not_lt_zero i)) (Nat.mod_lt _ (by decide)) (off5_eq k) rfl (trip_pay arg0 arg1 arg3 arg7 X0 X1 X3 X7 k 0 inb_S2048x1024_S128x1024_0_0)
theorem trip_w2 : Done (HX arg0 arg1 arg3 arg7 X0 X1 X3 X7 (k.val + 1)) ((k.val + 1) % 2) 2 (trip.sl.H6_w2 arg0 arg1 arg3 arg7 X0 X1 X3 X7 f6 k) := by
  unfold trip.sl.H6_w2
  exact Done.data (n := 1) (trip_w1 arg0 arg1 arg3 arg7 X0 X1 X3 X7 k f6) (Nat.mod_lt _ (by decide)) (off5_eq k) rfl (trip_pay arg0 arg1 arg3 arg7 X0 X1 X3 X7 k 1 inb_S2048x1024_S128x1024_128_0)
theorem trip_w3 : Done (HX arg0 arg1 arg3 arg7 X0 X1 X3 X7 (k.val + 1)) ((k.val + 1) % 2) 3 (trip.sl.H6_w3 arg0 arg1 arg3 arg7 X0 X1 X3 X7 f6 k) := by
  unfold trip.sl.H6_w3
  exact Done.data (n := 2) (trip_w2 arg0 arg1 arg3 arg7 X0 X1 X3 X7 k f6) (Nat.mod_lt _ (by decide)) (off5_eq k) rfl (trip_pay arg0 arg1 arg3 arg7 X0 X1 X3 X7 k 2 inb_S2048x1024_S128x1024_256_0)
theorem trip_w4 : Done (HX arg0 arg1 arg3 arg7 X0 X1 X3 X7 (k.val + 1)) ((k.val + 1) % 2) 4 (trip.sl.H6_w4 arg0 arg1 arg3 arg7 X0 X1 X3 X7 f6 k) := by
  unfold trip.sl.H6_w4
  exact Done.data (n := 3) (trip_w3 arg0 arg1 arg3 arg7 X0 X1 X3 X7 k f6) (Nat.mod_lt _ (by decide)) (off5_eq k) rfl (trip_pay arg0 arg1 arg3 arg7 X0 X1 X3 X7 k 3 inb_S2048x1024_S128x1024_384_0)
theorem trip_w5 : Done (HX arg0 arg1 arg3 arg7 X0 X1 X3 X7 (k.val + 1)) ((k.val + 1) % 2) 5 (trip.sl.H6_w5 arg0 arg1 arg3 arg7 X0 X1 X3 X7 f6 k) := by
  unfold trip.sl.H6_w5
  exact Done.data (n := 4) (trip_w4 arg0 arg1 arg3 arg7 X0 X1 X3 X7 k f6) (Nat.mod_lt _ (by decide)) (off5_eq k) rfl (trip_pay arg0 arg1 arg3 arg7 X0 X1 X3 X7 k 4 inb_S2048x1024_S128x1024_512_0)
theorem trip_w6 : Done (HX arg0 arg1 arg3 arg7 X0 X1 X3 X7 (k.val + 1)) ((k.val + 1) % 2) 6 (trip.sl.H6_w6 arg0 arg1 arg3 arg7 X0 X1 X3 X7 f6 k) := by
  unfold trip.sl.H6_w6
  exact Done.data (n := 5) (trip_w5 arg0 arg1 arg3 arg7 X0 X1 X3 X7 k f6) (Nat.mod_lt _ (by decide)) (off5_eq k) rfl (trip_pay arg0 arg1 arg3 arg7 X0 X1 X3 X7 k 5 inb_S2048x1024_S128x1024_640_0)
theorem trip_w7 : Done (HX arg0 arg1 arg3 arg7 X0 X1 X3 X7 (k.val + 1)) ((k.val + 1) % 2) 7 (trip.sl.H6_w7 arg0 arg1 arg3 arg7 X0 X1 X3 X7 f6 k) := by
  unfold trip.sl.H6_w7
  exact Done.data (n := 6) (trip_w6 arg0 arg1 arg3 arg7 X0 X1 X3 X7 k f6) (Nat.mod_lt _ (by decide)) (off5_eq k) rfl (trip_pay arg0 arg1 arg3 arg7 X0 X1 X3 X7 k 6 inb_S2048x1024_S128x1024_768_0)
theorem trip_w8 : Done (HX arg0 arg1 arg3 arg7 X0 X1 X3 X7 (k.val + 1)) ((k.val + 1) % 2) 8 (trip.sl.H6_w8 arg0 arg1 arg3 arg7 X0 X1 X3 X7 f6 k) := by
  unfold trip.sl.H6_w8
  exact Done.data (n := 7) (trip_w7 arg0 arg1 arg3 arg7 X0 X1 X3 X7 k f6) (Nat.mod_lt _ (by decide)) (off5_eq k) rfl (trip_pay arg0 arg1 arg3 arg7 X0 X1 X3 X7 k 7 inb_S2048x1024_S128x1024_896_0)
theorem trip_w9 : Done (HX arg0 arg1 arg3 arg7 X0 X1 X3 X7 (k.val + 1)) ((k.val + 1) % 2) 9 (trip.sl.H6_w9 arg0 arg1 arg3 arg7 X0 X1 X3 X7 f6 k) := by
  unfold trip.sl.H6_w9
  exact Done.data (n := 8) (trip_w8 arg0 arg1 arg3 arg7 X0 X1 X3 X7 k f6) (Nat.mod_lt _ (by decide)) (off5_eq k) rfl (trip_pay arg0 arg1 arg3 arg7 X0 X1 X3 X7 k 8 inb_S2048x1024_S128x1024_1024_0)
theorem trip_w10 : Done (HX arg0 arg1 arg3 arg7 X0 X1 X3 X7 (k.val + 1)) ((k.val + 1) % 2) 10 (trip.sl.H6_w10 arg0 arg1 arg3 arg7 X0 X1 X3 X7 f6 k) := by
  unfold trip.sl.H6_w10
  exact Done.data (n := 9) (trip_w9 arg0 arg1 arg3 arg7 X0 X1 X3 X7 k f6) (Nat.mod_lt _ (by decide)) (off5_eq k) rfl (trip_pay arg0 arg1 arg3 arg7 X0 X1 X3 X7 k 9 inb_S2048x1024_S128x1024_1152_0)
theorem trip_w11 : Done (HX arg0 arg1 arg3 arg7 X0 X1 X3 X7 (k.val + 1)) ((k.val + 1) % 2) 11 (trip.sl.H6_w11 arg0 arg1 arg3 arg7 X0 X1 X3 X7 f6 k) := by
  unfold trip.sl.H6_w11
  exact Done.data (n := 10) (trip_w10 arg0 arg1 arg3 arg7 X0 X1 X3 X7 k f6) (Nat.mod_lt _ (by decide)) (off5_eq k) rfl (trip_pay arg0 arg1 arg3 arg7 X0 X1 X3 X7 k 10 inb_S2048x1024_S128x1024_1280_0)
theorem trip_w12 : Done (HX arg0 arg1 arg3 arg7 X0 X1 X3 X7 (k.val + 1)) ((k.val + 1) % 2) 12 (trip.sl.H6_w12 arg0 arg1 arg3 arg7 X0 X1 X3 X7 f6 k) := by
  unfold trip.sl.H6_w12
  exact Done.data (n := 11) (trip_w11 arg0 arg1 arg3 arg7 X0 X1 X3 X7 k f6) (Nat.mod_lt _ (by decide)) (off5_eq k) rfl (trip_pay arg0 arg1 arg3 arg7 X0 X1 X3 X7 k 11 inb_S2048x1024_S128x1024_1408_0)
theorem trip_w13 : Done (HX arg0 arg1 arg3 arg7 X0 X1 X3 X7 (k.val + 1)) ((k.val + 1) % 2) 13 (trip.sl.H6_w13 arg0 arg1 arg3 arg7 X0 X1 X3 X7 f6 k) := by
  unfold trip.sl.H6_w13
  exact Done.data (n := 12) (trip_w12 arg0 arg1 arg3 arg7 X0 X1 X3 X7 k f6) (Nat.mod_lt _ (by decide)) (off5_eq k) rfl (trip_pay arg0 arg1 arg3 arg7 X0 X1 X3 X7 k 12 inb_S2048x1024_S128x1024_1536_0)
theorem trip_w14 : Done (HX arg0 arg1 arg3 arg7 X0 X1 X3 X7 (k.val + 1)) ((k.val + 1) % 2) 14 (trip.sl.H6_w14 arg0 arg1 arg3 arg7 X0 X1 X3 X7 f6 k) := by
  unfold trip.sl.H6_w14
  exact Done.data (n := 13) (trip_w13 arg0 arg1 arg3 arg7 X0 X1 X3 X7 k f6) (Nat.mod_lt _ (by decide)) (off5_eq k) rfl (trip_pay arg0 arg1 arg3 arg7 X0 X1 X3 X7 k 13 inb_S2048x1024_S128x1024_1664_0)
theorem trip_w15 : Done (HX arg0 arg1 arg3 arg7 X0 X1 X3 X7 (k.val + 1)) ((k.val + 1) % 2) 15 (trip.sl.H6_w15 arg0 arg1 arg3 arg7 X0 X1 X3 X7 f6 k) := by
  unfold trip.sl.H6_w15
  exact Done.data (n := 14) (trip_w14 arg0 arg1 arg3 arg7 X0 X1 X3 X7 k f6) (Nat.mod_lt _ (by decide)) (off5_eq k) rfl (trip_pay arg0 arg1 arg3 arg7 X0 X1 X3 X7 k 14 inb_S2048x1024_S128x1024_1792_0)
theorem trip_w16 : Done (HX arg0 arg1 arg3 arg7 X0 X1 X3 X7 (k.val + 1)) ((k.val + 1) % 2) 16 (trip.sl.H6_w16 arg0 arg1 arg3 arg7 X0 X1 X3 X7 f6 k) := by
  unfold trip.sl.H6_w16
  exact Done.data (n := 15) (trip_w15 arg0 arg1 arg3 arg7 X0 X1 X3 X7 k f6) (Nat.mod_lt _ (by decide)) (off5_eq k) rfl (trip_pay arg0 arg1 arg3 arg7 X0 X1 X3 X7 k 15 inb_S2048x1024_S128x1024_1920_0)
theorem trip_w17 : Done (HX arg0 arg1 arg3 arg7 X0 X1 X3 X7 (k.val + 1)) ((k.val + 1) % 2) 16 (trip.sl.H6_w17 arg0 arg1 arg3 arg7 X0 X1 X3 X7 f6 k) := by
  unfold trip.sl.H6_w17
  exact Done.halo (trip_w16 arg0 arg1 arg3 arg7 X0 X1 X3 X7 k f6) (Nat.mod_lt _ (by decide)) (off5_eq k) (by decide)
theorem trip_w18 : Done (HX arg0 arg1 arg3 arg7 X0 X1 X3 X7 (k.val + 1)) ((k.val + 1) % 2) 16 (trip.sl.H6_w18 arg0 arg1 arg3 arg7 X0 X1 X3 X7 f6 k) := by
  unfold trip.sl.H6_w18
  exact Done.halo (trip_w17 arg0 arg1 arg3 arg7 X0 X1 X3 X7 k f6) (Nat.mod_lt _ (by decide)) (off5_eq k) (by decide)
theorem trip_w19 : Done (HX arg0 arg1 arg3 arg7 X0 X1 X3 X7 (k.val + 1)) ((k.val + 1) % 2) 16 (trip.sl.H6_w19 arg0 arg1 arg3 arg7 X0 X1 X3 X7 f6 k) := by
  unfold trip.sl.H6_w19
  exact Done.halo (trip_w18 arg0 arg1 arg3 arg7 X0 X1 X3 X7 k f6) (Nat.mod_lt _ (by decide)) (off5_eq k) (by decide)
theorem trip_w20 : Done (HX arg0 arg1 arg3 arg7 X0 X1 X3 X7 (k.val + 1)) ((k.val + 1) % 2) 16 (trip.sl.H6_w20 arg0 arg1 arg3 arg7 X0 X1 X3 X7 f6 k) := by
  unfold trip.sl.H6_w20
  exact Done.halo (trip_w19 arg0 arg1 arg3 arg7 X0 X1 X3 X7 k f6) (Nat.mod_lt _ (by decide)) (off5_eq k) (by decide)
theorem trip_w21 : Done (HX arg0 arg1 arg3 arg7 X0 X1 X3 X7 (k.val + 1)) ((k.val + 1) % 2) 16 (trip.sl.H6_w21 arg0 arg1 arg3 arg7 X0 X1 X3 X7 f6 k) := by
  unfold trip.sl.H6_w21
  exact Done.halo (trip_w20 arg0 arg1 arg3 arg7 X0 X1 X3 X7 k f6) (Nat.mod_lt _ (by decide)) (off5_eq k) (by decide)
theorem trip_w22 : Done (HX arg0 arg1 arg3 arg7 X0 X1 X3 X7 (k.val + 1)) ((k.val + 1) % 2) 16 (trip.sl.H6_w22 arg0 arg1 arg3 arg7 X0 X1 X3 X7 f6 k) := by
  unfold trip.sl.H6_w22
  exact Done.halo (trip_w21 arg0 arg1 arg3 arg7 X0 X1 X3 X7 k f6) (Nat.mod_lt _ (by decide)) (off5_eq k) (by decide)
theorem trip_w23 : Done (HX arg0 arg1 arg3 arg7 X0 X1 X3 X7 (k.val + 1)) ((k.val + 1) % 2) 16 (trip.sl.H6_w23 arg0 arg1 arg3 arg7 X0 X1 X3 X7 f6 k) := by
  unfold trip.sl.H6_w23
  exact Done.halo (trip_w22 arg0 arg1 arg3 arg7 X0 X1 X3 X7 k f6) (Nat.mod_lt _ (by decide)) (off5_eq k) (by decide)
theorem trip_w24 : Done (HX arg0 arg1 arg3 arg7 X0 X1 X3 X7 (k.val + 1)) ((k.val + 1) % 2) 16 (trip.sl.H6_w24 arg0 arg1 arg3 arg7 X0 X1 X3 X7 f6 k) := by
  unfold trip.sl.H6_w24
  exact Done.halo (trip_w23 arg0 arg1 arg3 arg7 X0 X1 X3 X7 k f6) (Nat.mod_lt _ (by decide)) (off5_eq k) (by decide)
/-- A trip leaves the other slot's column. -/
theorem trip_keep {G : ℕ → FVec F S128x128 .f32} (h : Done G (k.val % 2) 16 f6) :
    Done G (k.val % 2) 16 (trip.sl.H6_w24 arg0 arg1 arg3 arg7 X0 X1 X3 X7 f6 k) := by
  have hne : k.val % 2 ≠ (k.val + 1) % 2 := by omega
  have hlt : (k.val + 1) % 2 < 2 := Nat.mod_lt _ (by decide)
  have ho := off5_eq k
  have h1 : Done G (k.val % 2) 16 (trip.sl.H6_w1 arg0 arg1 arg3 arg7 X0 X1 X3 X7 f6 k) := by
    unfold trip.sl.H6_w1; exact Done.other h _ hlt hne ho
  have h2 : Done G (k.val % 2) 16 (trip.sl.H6_w2 arg0 arg1 arg3 arg7 X0 X1 X3 X7 f6 k) := by
    unfold trip.sl.H6_w2; exact Done.other h1 _ hlt hne ho
  have h3 : Done G (k.val % 2) 16 (trip.sl.H6_w3 arg0 arg1 arg3 arg7 X0 X1 X3 X7 f6 k) := by
    unfold trip.sl.H6_w3; exact Done.other h2 _ hlt hne ho
  have h4 : Done G (k.val % 2) 16 (trip.sl.H6_w4 arg0 arg1 arg3 arg7 X0 X1 X3 X7 f6 k) := by
    unfold trip.sl.H6_w4; exact Done.other h3 _ hlt hne ho
  have h5 : Done G (k.val % 2) 16 (trip.sl.H6_w5 arg0 arg1 arg3 arg7 X0 X1 X3 X7 f6 k) := by
    unfold trip.sl.H6_w5; exact Done.other h4 _ hlt hne ho
  have h6 : Done G (k.val % 2) 16 (trip.sl.H6_w6 arg0 arg1 arg3 arg7 X0 X1 X3 X7 f6 k) := by
    unfold trip.sl.H6_w6; exact Done.other h5 _ hlt hne ho
  have h7 : Done G (k.val % 2) 16 (trip.sl.H6_w7 arg0 arg1 arg3 arg7 X0 X1 X3 X7 f6 k) := by
    unfold trip.sl.H6_w7; exact Done.other h6 _ hlt hne ho
  have h8 : Done G (k.val % 2) 16 (trip.sl.H6_w8 arg0 arg1 arg3 arg7 X0 X1 X3 X7 f6 k) := by
    unfold trip.sl.H6_w8; exact Done.other h7 _ hlt hne ho
  have h9 : Done G (k.val % 2) 16 (trip.sl.H6_w9 arg0 arg1 arg3 arg7 X0 X1 X3 X7 f6 k) := by
    unfold trip.sl.H6_w9; exact Done.other h8 _ hlt hne ho
  have h10 : Done G (k.val % 2) 16 (trip.sl.H6_w10 arg0 arg1 arg3 arg7 X0 X1 X3 X7 f6 k) := by
    unfold trip.sl.H6_w10; exact Done.other h9 _ hlt hne ho
  have h11 : Done G (k.val % 2) 16 (trip.sl.H6_w11 arg0 arg1 arg3 arg7 X0 X1 X3 X7 f6 k) := by
    unfold trip.sl.H6_w11; exact Done.other h10 _ hlt hne ho
  have h12 : Done G (k.val % 2) 16 (trip.sl.H6_w12 arg0 arg1 arg3 arg7 X0 X1 X3 X7 f6 k) := by
    unfold trip.sl.H6_w12; exact Done.other h11 _ hlt hne ho
  have h13 : Done G (k.val % 2) 16 (trip.sl.H6_w13 arg0 arg1 arg3 arg7 X0 X1 X3 X7 f6 k) := by
    unfold trip.sl.H6_w13; exact Done.other h12 _ hlt hne ho
  have h14 : Done G (k.val % 2) 16 (trip.sl.H6_w14 arg0 arg1 arg3 arg7 X0 X1 X3 X7 f6 k) := by
    unfold trip.sl.H6_w14; exact Done.other h13 _ hlt hne ho
  have h15 : Done G (k.val % 2) 16 (trip.sl.H6_w15 arg0 arg1 arg3 arg7 X0 X1 X3 X7 f6 k) := by
    unfold trip.sl.H6_w15; exact Done.other h14 _ hlt hne ho
  have h16 : Done G (k.val % 2) 16 (trip.sl.H6_w16 arg0 arg1 arg3 arg7 X0 X1 X3 X7 f6 k) := by
    unfold trip.sl.H6_w16; exact Done.other h15 _ hlt hne ho
  have h17 : Done G (k.val % 2) 16 (trip.sl.H6_w17 arg0 arg1 arg3 arg7 X0 X1 X3 X7 f6 k) := by
    unfold trip.sl.H6_w17; exact Done.other h16 _ hlt hne ho
  have h18 : Done G (k.val % 2) 16 (trip.sl.H6_w18 arg0 arg1 arg3 arg7 X0 X1 X3 X7 f6 k) := by
    unfold trip.sl.H6_w18; exact Done.other h17 _ hlt hne ho
  have h19 : Done G (k.val % 2) 16 (trip.sl.H6_w19 arg0 arg1 arg3 arg7 X0 X1 X3 X7 f6 k) := by
    unfold trip.sl.H6_w19; exact Done.other h18 _ hlt hne ho
  have h20 : Done G (k.val % 2) 16 (trip.sl.H6_w20 arg0 arg1 arg3 arg7 X0 X1 X3 X7 f6 k) := by
    unfold trip.sl.H6_w20; exact Done.other h19 _ hlt hne ho
  have h21 : Done G (k.val % 2) 16 (trip.sl.H6_w21 arg0 arg1 arg3 arg7 X0 X1 X3 X7 f6 k) := by
    unfold trip.sl.H6_w21; exact Done.other h20 _ hlt hne ho
  have h22 : Done G (k.val % 2) 16 (trip.sl.H6_w22 arg0 arg1 arg3 arg7 X0 X1 X3 X7 f6 k) := by
    unfold trip.sl.H6_w22; exact Done.other h21 _ hlt hne ho
  have h23 : Done G (k.val % 2) 16 (trip.sl.H6_w23 arg0 arg1 arg3 arg7 X0 X1 X3 X7 f6 k) := by
    unfold trip.sl.H6_w23; exact Done.other h22 _ hlt hne ho
  have h24 : Done G (k.val % 2) 16 (trip.sl.H6_w24 arg0 arg1 arg3 arg7 X0 X1 X3 X7 f6 k) := by
    unfold trip.sl.H6_w24; exact Done.other h23 _ hlt hne ho
  exact h24

end

section
variable (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
  (X0 : BufTy.Contents (Elt F) arg0.view.ty) (X1 : BufTy.Contents (Elt F) arg1.view.ty)
  (X3 : BufTy.Contents (Elt F) arg3.view.ty) (X7 : BufTy.Contents (Elt F) arg7.view.ty)

/-- One trip, from a slot that holds column `k`: the other slot comes to hold column `k + 1`, and column `k` goes to the output. -/
theorem trip_spec (f6 : BufTy.Contents (Elt F) cc0_scratch0.ty) (k : Fin k0_t1_loop.trips)
    (h : Done (HX arg0 arg1 arg3 arg7 X0 X1 X3 X7 k.val) (k.val % 2) 16 f6) :
    Done (HX arg0 arg1 arg3 arg7 X0 X1 X3 X7 (k.val + 1)) ((k.val + 1) % 2) 16 (trip (F := F) c arg0 harg0 arg1 harg1 arg2 harg2 arg3 harg3 arg4 harg4 arg5 harg5 arg7 harg7 X0 X1 X3 X7 f6 k).1.1
      ∧ ∀ p ∈ (trip (F := F) c arg0 harg0 arg1 harg1 arg2 harg2 arg3 harg3 arg4 harg4 arg5 harg5 arg7 harg7 X0 X1 X3 X7 f6 k).1.2, ∀ z : p.1.shape.Idx, p.2 z = (hAt (arg0.view.read (Elt F) X0) (arg1.view.read (Elt F) X1) (arg7.view.read (Elt F) X7) (arg3.view.read (Elt F) X3)) (p.1.emb z) := by
  have hk := trip_keep arg0 arg1 arg3 arg7 X0 X1 X3 X7 k f6 h
  have hlt : k.val % 2 < 2 := Nat.mod_lt _ (by decide)
  unfold trip
  dsimp only
  refine ⟨trip_w24 arg0 arg1 arg3 arg7 X0 X1 X3 X7 k f6, ?_⟩
  intro p hp
  simp only [List.mem_cons, List.not_mem_nil, or_false] at hp
  rcases hp with rfl | rfl | rfl | rfl | rfl | rfl | rfl | rfl <;> intro z
  · unfold trip.sl.v979; dsimp only at z ⊢; exact export_eq _ _ _ _ hk _ _ (fun _ => rfl) 2060 7 (by decide) rfl _ hlt (off6_eq k) _ (off14_eq k) _ z
  · unfold trip.sl.v974; dsimp only at z ⊢; exact export_eq _ _ _ _ hk _ _ (fun _ => rfl) 1768 6 (by decide) rfl _ hlt (off6_eq k) _ (off13_eq k) _ z
  · unfold trip.sl.v969; dsimp only at z ⊢; exact export_eq _ _ _ _ hk _ _ (fun _ => rfl) 1476 5 (by decide) rfl _ hlt (off6_eq k) _ (off12_eq k) _ z
  · unfold trip.sl.v964; dsimp only at z ⊢; exact export_eq _ _ _ _ hk _ _ (fun _ => rfl) 1184 4 (by decide) rfl _ hlt (off6_eq k) _ (off11_eq k) _ z
  · unfold trip.sl.v959; dsimp only at z ⊢; exact export_eq _ _ _ _ hk _ _ (fun _ => rfl) 892 3 (by decide) rfl _ hlt (off6_eq k) _ (off10_eq k) _ z
  · unfold trip.sl.v954; dsimp only at z ⊢; exact export_eq _ _ _ _ hk _ _ (fun _ => rfl) 600 2 (by decide) rfl _ hlt (off6_eq k) _ (off9_eq k) _ z
  · unfold trip.sl.v949; dsimp only at z ⊢; exact export_eq _ _ _ _ hk _ _ (fun _ => rfl) 308 1 (by decide) rfl _ hlt (off6_eq k) _ (off8_eq k) _ z
  · unfold trip.sl.v944; dsimp only at z ⊢; exact export_eq _ _ _ _ hk _ _ (fun _ => rfl) 16 0 (by decide) rfl _ hlt (off6_eq k) _ (off7_eq k) _ z

/-- Before trip `k` one slot holds column `k`, and everything written to the output is the gated product where it is written. -/
theorem st_spec (G6 : BufTy.Contents (Elt F) cc0_scratch0.ty) (h0 : Done (HX arg0 arg1 arg3 arg7 X0 X1 X3 X7 0) 0 16 G6) : ∀ k : ℕ, k ≤ k0_t1_loop.trips →
    Done (HX arg0 arg1 arg3 arg7 X0 X1 X3 X7 k) (k % 2) 16 (st (F := F) c arg0 harg0 arg1 harg1 arg2 harg2 arg3 harg3 arg4 harg4 arg5 harg5 arg7 harg7 X0 X1 X3 X7 G6 k).1
      ∧ ∀ p ∈ (st (F := F) c arg0 harg0 arg1 harg1 arg2 harg2 arg3 harg3 arg4 harg4 arg5 harg5 arg7 harg7 X0 X1 X3 X7 G6 k).2, ∀ z : p.1.shape.Idx, p.2 z = (hAt (arg0.view.read (Elt F) X0) (arg1.view.read (Elt F) X1) (arg7.view.read (Elt F) X7) (arg3.view.read (Elt F) X3)) (p.1.emb z) := by
  intro k
  induction k with
  | zero => intro _; rw [st.eq_1]; exact ⟨h0, fun p hp => absurd hp List.not_mem_nil⟩
  | succ k ih =>
    intro hk
    have ih' := ih (Nat.le_of_succ_le hk)
    have hs := st_succ (F := F) c arg0 harg0 arg1 harg1 arg2 harg2 arg3 harg3 arg4 harg4 arg5 harg5 arg7 harg7 X0 X1 X3 X7 G6 ⟨k, hk⟩
    dsimp only at hs
    have ht := trip_spec (F := F) c arg0 harg0 arg1 harg1 arg2 harg2 arg3 harg3 arg4 harg4 arg5 harg5 arg7 harg7 X0 X1 X3 X7 (st (F := F) c arg0 harg0 arg1 harg1 arg2 harg2 arg3 harg3 arg4 harg4 arg5 harg5 arg7 harg7 X0 X1 X3 X7 G6 k).1 ⟨k, hk⟩ ih'.1
    rw [hs]
    refine ⟨ht.1, fun p hp => ?_⟩
    rcases List.mem_append.mp hp with hp | hp
    · exact ht.2 p hp
    · exact ih'.2 p hp

end

end Cert.KernelMm.Mm

end
-- ==== Proof.MmBitsBody.lean ====
/- What the whole body of the product kernel writes: the gated product. -/
module

public import proofs.«01_k».proof.Proof.MmBitsLoop

@[expose] public section

set_option maxRecDepth 16384

noncomputable section

namespace Cert.KernelMm.Mm

open Idealize.ShloMosaic Idealize.ShloMosaic.TcCoe Idealize.ShloMosaic.Tactic
open Idealize.SL.Sem
open Cert.KernelMm Cert.KernelMm.Gen

variable {F : FTy → Type} [FloatOps F]

theorem hz : (![0, 0] : Fin 2 → Nat) = fun _ => 0 := funext fun a => by fin_cases a <;> rfl

/-- The row of scales the body stores: every column's weight scale times the one scale. -/
def scRow (x2 : Vec F S1x2048 .f32) (x4 : Vec F S1x1 .f32) : Vec F S1x2048 .f32 := k0_pay41 (x4 (ix2 0 0)) x2

section
variable (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (x0 : Vec F S2048x1024 .fp8e4m3) (x1 : Vec F S1024x2048 .fp8e4m3) (x2 : Vec F S1x2048 .f32) (x3 : Vec F S1x2048 .f32) (x4 : Vec F S1x1 .f32)
    (g6 : BufTy.Contents (Elt F) cc0_scratch0.ty)

theorem scale_read : arg7.view.read (Elt F) (arg7.view.writes (Elt F) arg7.view.junk (run.sl.H7_1 c arg2 harg2 arg4 harg4 x2 x4)) = scRow x2 x4 := by
  unfold run.sl.H7_1 run.sl.r
  rw [View.read_writes_eq_canon]
  rotate_left
  · intro y
    exact ⟨_, List.mem_singleton_self _, View.mem_set_unit_zero (S := S1x2048) hz inb_S1x2048_S1x2048_0_0 y⟩
  rw [View.canon_unit_zero (S := S1x2048) hz]
  rw [View.readAt_eq_ld, View.readAt_eq_ld, harg4.read_unread, harg2.read_unread, View.ld_unit_zero (S := S1x2048) hz, View.ld_unit_zero (S := S1x1) hz]
  unfold scRow
  refine congrArg (fun i => k0_pay41 (x4 i) x2) ?_
  funext a
  match a with
  | ⟨0, h⟩ => exact Subsingleton.elim (α := Fin 1) _ _
  | ⟨1, h⟩ => exact Subsingleton.elim (α := Fin 1) _ _

theorem run_pay (i : ℕ) (inb : ∀ a, (![128 * i, 0] : Fin 2 → ℕ) a + S128x1024.size a ≤ S2048x1024.size a) :
    k0_pay6 (run.sl.r_1 c arg1 harg1 x1) (run.sl.v98 c arg2 harg2 arg4 harg4 arg7 x2 x4) (run.sl.v100 c arg2 harg2 arg4 harg4 arg7 x2 x4)
      (run.sl.r_2 c arg3 harg3 x3) (run.sl.r_3 c arg3 harg3 x3)
      (View.readAt (Elt F) arg0.view (Rect.unit (s := S2048x1024) ![128 * i, 0] S128x1024.size inb).toLoadRect (harg0.unread x0))
      = (HX arg0 arg1 arg3 arg7 (harg0.unread x0) (harg1.unread x1) (harg3.unread x3) (arg7.view.writes (Elt F) arg7.view.junk (run.sl.H7_1 c arg2 harg2 arg4 harg4 x2 x4)) 0 i) := by
  have e1 : run.sl.v98 c arg2 harg2 arg4 harg4 arg7 x2 x4
      = blkR (arg7.view.read (Elt F) (arg7.view.writes (Elt F) arg7.view.junk (run.sl.H7_1 c arg2 harg2 arg4 harg4 x2 x4))) 0 :=
    rdR arg7.view _ ![0, 0] 0 rfl inb_S1x2048_S1x128_0_0
  have e2 : run.sl.v100 c arg2 harg2 arg4 harg4 arg7 x2 x4
      = blkR (arg7.view.read (Elt F) (arg7.view.writes (Elt F) arg7.view.junk (run.sl.H7_1 c arg2 harg2 arg4 harg4 x2 x4))) 1024 :=
    rdR arg7.view _ ![0, 1024] 1024 rfl inb_S1x2048_S1x128_0_1024
  rw [e1, e2]
  unfold run.sl.r_1 run.sl.r_2 run.sl.r_3
  rw [rdX _ _ _ i rfl, rdW _ _ _ 0 rfl, rdW _ _ _ 1024 rfl, rdR _ _ _ 0 rfl, rdR _ _ _ 1024 rfl]
  rfl

theorem run_w17 : Done (HX arg0 arg1 arg3 arg7 (harg0.unread x0) (harg1.unread x1) (harg3.unread x3) (arg7.view.writes (Elt F) arg7.view.junk (run.sl.H7_1 c arg2 harg2 arg4 harg4 x2 x4)) 0) 0 1 (run.sl.H6_w17 c arg0 harg0 arg1 harg1 arg2 harg2 arg3 harg3 arg4 harg4 arg7 x0 x1 x2 x3 x4 g6) := by
  unfold run.sl.H6_w17
  exact Done.data (n := 0) (fun i hi => absurd hi (Nat.not_lt_zero i)) (by decide) rfl rfl (run_pay c arg0 harg0 arg1 harg1 arg2 harg2 arg3 harg3 arg4 harg4 arg7 x0 x1 x2 x3 x4 0 inb_S2048x1024_S128x1024_0_0)
theorem run_w18 : Done (HX arg0 arg1 arg3 arg7 (harg0.unread x0) (harg1.unread x1) (harg3.unread x3) (arg7.view.writes (Elt F) arg7.view.junk (run.sl.H7_1 c arg2 harg2 arg4 harg4 x2 x4)) 0) 0 2 (run.sl.H6_w18 c arg0 harg0 arg1 harg1 arg2 harg2 arg3 harg3 arg4 harg4 arg7 x0 x1 x2 x3 x4 g6) := by
  unfold run.sl.H6_w18
  exact Done.data (n := 1) (run_w17 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 1 inb_S2048x1024_S128x1024_128_0)
theorem run_w19 : Done (HX arg0 arg1 arg3 arg7 (harg0.unread x0) (harg1.unread x1) (harg3.unread x3) (arg7.view.writes (Elt F) arg7.view.junk (run.sl.H7_1 c arg2 harg2 arg4 harg4 x2 x4)) 0) 0 3 (run.sl.H6_w19 c arg0 harg0 arg1 harg1 arg2 harg2 arg3 harg3 arg4 harg4 arg7 x0 x1 x2 x3 x4 g6) := by
  unfold run.sl.H6_w19
  exact Done.data (n := 2) (run_w18 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 2 inb_S2048x1024_S128x1024_256_0)
theorem run_w20 : Done (HX arg0 arg1 arg3 arg7 (harg0.unread x0) (harg1.unread x1) (harg3.unread x3) (arg7.view.writes (Elt F) arg7.view.junk (run.sl.H7_1 c arg2 harg2 arg4 harg4 x2 x4)) 0) 0 4 (run.sl.H6_w20 c arg0 harg0 arg1 harg1 arg2 harg2 arg3 harg3 arg4 harg4 arg7 x0 x1 x2 x3 x4 g6) := by
  unfold run.sl.H6_w20
  exact Done.data (n := 3) (run_w19 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 3 inb_S2048x1024_S128x1024_384_0)
theorem run_w21 : Done (HX arg0 arg1 arg3 arg7 (harg0.unread x0) (harg1.unread x1) (harg3.unread x3) (arg7.view.writes (Elt F) arg7.view.junk (run.sl.H7_1 c arg2 harg2 arg4 harg4 x2 x4)) 0) 0 5 (run.sl.H6_w21 c arg0 harg0 arg1 harg1 arg2 harg2 arg3 harg3 arg4 harg4 arg7 x0 x1 x2 x3 x4 g6) := by
  unfold run.sl.H6_w21
  exact Done.data (n := 4) (run_w20 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 4 inb_S2048x1024_S128x1024_512_0)
theorem run_w22 : Done (HX arg0 arg1 arg3 arg7 (harg0.unread x0) (harg1.unread x1) (harg3.unread x3) (arg7.view.writes (Elt F) arg7.view.junk (run.sl.H7_1 c arg2 harg2 arg4 harg4 x2 x4)) 0) 0 6 (run.sl.H6_w22 c arg0 harg0 arg1 harg1 arg2 harg2 arg3 harg3 arg4 harg4 arg7 x0 x1 x2 x3 x4 g6) := by
  unfold run.sl.H6_w22
  exact Done.data (n := 5) (run_w21 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 5 inb_S2048x1024_S128x1024_640_0)
theorem run_w23 : Done (HX arg0 arg1 arg3 arg7 (harg0.unread x0) (harg1.unread x1) (harg3.unread x3) (arg7.view.writes (Elt F) arg7.view.junk (run.sl.H7_1 c arg2 harg2 arg4 harg4 x2 x4)) 0) 0 7 (run.sl.H6_w23 c arg0 harg0 arg1 harg1 arg2 harg2 arg3 harg3 arg4 harg4 arg7 x0 x1 x2 x3 x4 g6) := by
  unfold run.sl.H6_w23
  exact Done.data (n := 6) (run_w22 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 6 inb_S2048x1024_S128x1024_768_0)
theorem run_w24 : Done (HX arg0 arg1 arg3 arg7 (harg0.unread x0) (harg1.unread x1) (harg3.unread x3) (arg7.view.writes (Elt F) arg7.view.junk (run.sl.H7_1 c arg2 harg2 arg4 harg4 x2 x4)) 0) 0 8 (run.sl.H6_w24 c arg0 harg0 arg1 harg1 arg2 harg2 arg3 harg3 arg4 harg4 arg7 x0 x1 x2 x3 x4 g6) := by
  unfold run.sl.H6_w24
  exact Done.data (n := 7) (run_w23 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 7 inb_S2048x1024_S128x1024_896_0)
theorem run_w25 : Done (HX arg0 arg1 arg3 arg7 (harg0.unread x0) (harg1.unread x1) (harg3.unread x3) (arg7.view.writes (Elt F) arg7.view.junk (run.sl.H7_1 c arg2 harg2 arg4 harg4 x2 x4)) 0) 0 9 (run.sl.H6_w25 c arg0 harg0 arg1 harg1 arg2 harg2 arg3 harg3 arg4 harg4 arg7 x0 x1 x2 x3 x4 g6) := by
  unfold run.sl.H6_w25
  exact Done.data (n := 8) (run_w24 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 8 inb_S2048x1024_S128x1024_1024_0)
theorem run_w26 : Done (HX arg0 arg1 arg3 arg7 (harg0.unread x0) (harg1.unread x1) (harg3.unread x3) (arg7.view.writes (Elt F) arg7.view.junk (run.sl.H7_1 c arg2 harg2 arg4 harg4 x2 x4)) 0) 0 10 (run.sl.H6_w26 c arg0 harg0 arg1 harg1 arg2 harg2 arg3 harg3 arg4 harg4 arg7 x0 x1 x2 x3 x4 g6) := by
  unfold run.sl.H6_w26
  exact Done.data (n := 9) (run_w25 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 9 inb_S2048x1024_S128x1024_1152_0)
theorem run_w27 : Done (HX arg0 arg1 arg3 arg7 (harg0.unread x0) (harg1.unread x1) (harg3.unread x3) (arg7.view.writes (Elt F) arg7.view.junk (run.sl.H7_1 c arg2 harg2 arg4 harg4 x2 x4)) 0) 0 11 (run.sl.H6_w27 c arg0 harg0 arg1 harg1 arg2 harg2 arg3 harg3 arg4 harg4 arg7 x0 x1 x2 x3 x4 g6) := by
  unfold run.sl.H6_w27
  exact Done.data (n := 10) (run_w26 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 10 inb_S2048x1024_S128x1024_1280_0)
theorem run_w28 : Done (HX arg0 arg1 arg3 arg7 (harg0.unread x0) (harg1.unread x1) (harg3.unread x3) (arg7.view.writes (Elt F) arg7.view.junk (run.sl.H7_1 c arg2 harg2 arg4 harg4 x2 x4)) 0) 0 12 (run.sl.H6_w28 c arg0 harg0 arg1 harg1 arg2 harg2 arg3 harg3 arg4 harg4 arg7 x0 x1 x2 x3 x4 g6) := by
  unfold run.sl.H6_w28
  exact Done.data (n := 11) (run_w27 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 11 inb_S2048x1024_S128x1024_1408_0)
theorem run_w29 : Done (HX arg0 arg1 arg3 arg7 (harg0.unread x0) (harg1.unread x1) (harg3.unread x3) (arg7.view.writes (Elt F) arg7.view.junk (run.sl.H7_1 c arg2 harg2 arg4 harg4 x2 x4)) 0) 0 13 (run.sl.H6_w29 c arg0 harg0 arg1 harg1 arg2 harg2 arg3 harg3 arg4 harg4 arg7 x0 x1 x2 x3 x4 g6) := by
  unfold run.sl.H6_w29
  exact Done.data (n := 12) (run_w28 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 12 inb_S2048x1024_S128x1024_1536_0)
theorem run_w30 : Done (HX arg0 arg1 arg3 arg7 (harg0.unread x0) (harg1.unread x1) (harg3.unread x3) (arg7.view.writes (Elt F) arg7.view.junk (run.sl.H7_1 c arg2 harg2 arg4 harg4 x2 x4)) 0) 0 14 (run.sl.H6_w30 c arg0 harg0 arg1 harg1 arg2 harg2 arg3 harg3 arg4 harg4 arg7 x0 x1 x2 x3 x4 g6) := by
  unfold run.sl.H6_w30
  exact Done.data (n := 13) (run_w29 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 13 inb_S2048x1024_S128x1024_1664_0)
theorem run_w31 : Done (HX arg0 arg1 arg3 arg7 (harg0.unread x0) (harg1.unread x1) (harg3.unread x3) (arg7.view.writes (Elt F) arg7.view.junk (run.sl.H7_1 c arg2 harg2 arg4 harg4 x2 x4)) 0) 0 15 (run.sl.H6_w31 c arg0 harg0 arg1 harg1 arg2 harg2 arg3 harg3 arg4 harg4 arg7 x0 x1 x2 x3 x4 g6) := by
  unfold run.sl.H6_w31
  exact Done.data (n := 14) (run_w30 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 14 inb_S2048x1024_S128x1024_1792_0)
theorem run_w32 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w32 c arg0 harg0 arg1 harg1 arg2 harg2 arg3 harg3 arg4 harg4 arg7 x0 x1 x2 x3 x4 g6) := by
  unfold run.sl.H6_w32
  exact Done.data (n := 15) (run_w31 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 15 inb_S2048x1024_S128x1024_1920_0)
theorem run_w33 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w33 c arg0 harg0 arg1 harg1 arg2 harg2 arg3 harg3 arg4 harg4 arg7 x0 x1 x2 x3 x4 g6) := by
  unfold run.sl.H6_w33
  exact Done.halo (run_w32 c arg0 harg0 arg1 harg1 arg2 harg2 arg3 harg3 arg4 harg4 arg7 x0 x1 x2 x3 x4 g6) (by decide) rfl (by decide)
theorem run_w34 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w34 c arg0 harg0 arg1 harg1 arg2 harg2 arg3 harg3 arg4 harg4 arg7 x0 x1 x2 x3 x4 g6) := by
  unfold run.sl.H6_w34
  exact Done.halo (run_w33 c arg0 harg0 arg1 harg1 arg2 harg2 arg3 harg3 arg4 harg4 arg7 x0 x1 x2 x3 x4 g6) (by decide) rfl (by decide)
theorem run_w35 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w35 c arg0 harg0 arg1 harg1 arg2 harg2 arg3 harg3 arg4 harg4 arg7 x0 x1 x2 x3 x4 g6) := by
  unfold run.sl.H6_w35
  exact Done.halo (run_w34 c arg0 harg0 arg1 harg1 arg2 harg2 arg3 harg3 arg4 harg4 arg7 x0 x1 x2 x3 x4 g6) (by decide) rfl (by decide)
theorem run_w36 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w36 c arg0 harg0 arg1 harg1 arg2 harg2 arg3 harg3 arg4 harg4 arg7 x0 x1 x2 x3 x4 g6) := by
  unfold run.sl.H6_w36
  exact Done.halo (run_w35 c arg0 harg0 arg1 harg1 arg2 harg2 arg3 harg3 arg4 harg4 arg7 x0 x1 x2 x3 x4 g6) (by decide) rfl (by decide)
theorem run_w37 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w37 c arg0 harg0 arg1 harg1 arg2 harg2 arg3 harg3 arg4 harg4 arg7 x0 x1 x2 x3 x4 g6) := by
  unfold run.sl.H6_w37
  exact Done.halo (run_w36 c arg0 harg0 arg1 harg1 arg2 harg2 arg3 harg3 arg4 harg4 arg7 x0 x1 x2 x3 x4 g6) (by decide) rfl (by decide)
theorem run_w38 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w38 c arg0 harg0 arg1 harg1 arg2 harg2 arg3 harg3 arg4 harg4 arg7 x0 x1 x2 x3 x4 g6) := by
  unfold run.sl.H6_w38
  exact Done.halo (run_w37 c arg0 harg0 arg1 harg1 arg2 harg2 arg3 harg3 arg4 harg4 arg7 x0 x1 x2 x3 x4 g6) (by decide) rfl (by decide)
theorem run_w39 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w39 c arg0 harg0 arg1 harg1 arg2 harg2 arg3 harg3 arg4 harg4 arg7 x0 x1 x2 x3 x4 g6) := by
  unfold run.sl.H6_w39
  exact Done.halo (run_w38 c arg0 harg0 arg1 harg1 arg2 harg2 arg3 harg3 arg4 harg4 arg7 x0 x1 x2 x3 x4 g6) (by decide) rfl (by decide)
theorem run_w40 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w40 c arg0 harg0 arg1 harg1 arg2 harg2 arg3 harg3 arg4 harg4 arg7 x0 x1 x2 x3 x4 g6) := by
  unfold run.sl.H6_w40
  exact Done.halo (run_w39 c arg0 harg0 arg1 harg1 arg2 harg2 arg3 harg3 arg4 harg4 arg7 x0 x1 x2 x3 x4 g6) (by decide) rfl (by decide)

/-- The pieces the body writes: the last column's, then the loop's. -/
theorem run_pieces : (run (F := F) c arg0 harg0 arg1 harg1 arg2 harg2 arg3 harg3 arg4 harg4 arg5 harg5 arg7 harg7 x0 x1 x2 x3 x4 g6).1 =
    [⟨Rect.unit (s := S2048x1024) ![1792, 896] S256x128.size inb_S2048x1024_S256x128_1792_896, run.sl.v530 c arg0 harg0 arg1 harg1 arg2 harg2 arg3 harg3 arg4 harg4 arg5 harg5 arg7 harg7 x0 x1 x2 x3 x4 g6⟩,
      ⟨Rect.unit (s := S2048x1024) ![1536, 896] S256x128.size inb_S2048x1024_S256x128_1536_896, run.sl.v525 c arg0 harg0 arg1 harg1 arg2 harg2 arg3 harg3 arg4 harg4 arg5 harg5 arg7 harg7 x0 x1 x2 x3 x4 g6⟩,
      ⟨Rect.unit (s := S2048x1024) ![1280, 896] S256x128.size inb_S2048x1024_S256x128_1280_896, run.sl.v520 c arg0 harg0 arg1 harg1 arg2 harg2 arg3 harg3 arg4 harg4 arg5 harg5 arg7 harg7 x0 x1 x2 x3 x4 g6⟩,
      ⟨Rect.unit (s := S2048x1024) ![1024, 896] S256x128.size inb_S2048x1024_S256x128_1024_896, run.sl.v515 c arg0 harg0 arg1 harg1 arg2 harg2 arg3 harg3 arg4 harg4 arg5 harg5 arg7 harg7 x0 x1 x2 x3 x4 g6⟩,
      ⟨Rect.unit (s := S2048x1024) ![768, 896] S256x128.size inb_S2048x1024_S256x128_768_896, run.sl.v510 c arg0 harg0 arg1 harg1 arg2 harg2 arg3 harg3 arg4 harg4 arg5 harg5 arg7 harg7 x0 x1 x2 x3 x4 g6⟩,
      ⟨Rect.unit (s := S2048x1024) ![512, 896] S256x128.size inb_S2048x1024_S256x128_512_896, run.sl.v505 c arg0 harg0 arg1 harg1 arg2 harg2 arg3 harg3 arg4 harg4 arg5 harg5 arg7 harg7 x0 x1 x2 x3 x4 g6⟩,
      ⟨Rect.unit (s := S2048x1024) ![256, 896] S256x128.size inb_S2048x1024_S256x128_256_896, run.sl.v500 c arg0 harg0 arg1 harg1 arg2 harg2 arg3 harg3 arg4 harg4 arg5 harg5 arg7 harg7 x0 x1 x2 x3 x4 g6⟩,
      ⟨Rect.unit (s := S2048x1024) ![0, 896] S256x128.size inb_S2048x1024_S256x128_0_896, run.sl.v495 c arg0 harg0 arg1 harg1 arg2 harg2 arg3 harg3 arg4 harg4 arg5 harg5 arg7 harg7 x0 x1 x2 x3 x4 g6⟩] ++ (st (F := F) c arg0 harg0 arg1 harg1 arg2 harg2 arg3 harg3 arg4 harg4 arg5 harg5 arg7 harg7 (harg0.unread x0) (harg1.unread x1) (harg3.unread x3) (arg7.view.writes (Elt F) arg7.view.junk (run.sl.H7_1 c arg2 harg2 arg4 harg4 x2 x4)) (run.sl.H6_w40 c arg0 harg0 arg1 harg1 arg2 harg2 arg3 harg3 arg4 harg4 arg7 x0 x1 x2 x3 x4 g6) k0_t1_loop.trips).2 := by
  unfold run; rfl

/-- Every piece is the gated product where it is written. -/
theorem run_agree : ∀ p ∈ (run (F := F) c arg0 harg0 arg1 harg1 arg2 harg2 arg3 harg3 arg4 harg4 arg5 harg5 arg7 harg7 x0 x1 x2 x3 x4 g6).1, ∀ z : p.1.shape.Idx, p.2 z = hAt x0 x1 (scRow x2 x4) x3 (p.1.emb z) := by
  have hs := st_spec (F := F) c arg0 harg0 arg1 harg1 arg2 harg2 arg3 harg3 arg4 harg4 arg5 harg5 arg7 harg7 (harg0.unread x0) (harg1.unread x1) (harg3.unread x3)
    (arg7.view.writes (Elt F) arg7.view.junk (run.sl.H7_1 c arg2 harg2 arg4 harg4 x2 x4)) (run.sl.H6_w40 c arg0 harg0 arg1 harg1 arg2 harg2 arg3 harg3 arg4 harg4 arg7 x0 x1 x2 x3 x4 g6)
    (run_w40 c arg0 harg0 arg1 harg1 arg2 harg2 arg3 harg3 arg4 harg4 arg7 x0 x1 x2 x3 x4 g6) k0_t1_loop.trips (Nat.le_refl _)
  have ht : k0_t1_loop.trips = 7 := by decide +kernel
  intro p hp
  rw [run_pieces] at hp
  have hb : hAt (arg0.view.read (Elt F) (harg0.unread x0)) (arg1.view.read (Elt F) (harg1.unread x1))
      (arg7.view.read (Elt F) (arg7.view.writes (Elt F) arg7.view.junk (run.sl.H7_1 c arg2 harg2 arg4 harg4 x2 x4)))
      (arg3.view.read (Elt F) (harg3.unread x3)) = hAt x0 x1 (scRow x2 x4) x3 := by
    rw [scale_read c arg2 harg2 arg4 harg4 arg7 x2 x4, harg0.read_unread, harg1.read_unread, harg3.read_unread]
  have hd := hs.1
  rw [show k0_t1_loop.trips % 2 = 1 by rw [ht]] at hd
  rw [← hb]
  rcases List.mem_append.mp hp with hp | hp
  · simp only [List.mem_cons, List.not_mem_nil, or_false] at hp
    rcases hp with rfl | rfl | rfl | rfl | rfl | rfl | rfl | rfl <;> intro z
    · dsimp only at z ⊢; unfold run.sl.v530; exact export_eq _ _ _ _ hd _ _ (fun _ => rfl) 2060 7 (by decide) rfl _ (by decide) rfl _ (by rw [ht]) _ z
    · dsimp only at z ⊢; unfold run.sl.v525; exact export_eq _ _ _ _ hd _ _ (fun _ => rfl) 1768 6 (by decide) rfl _ (by decide) rfl _ (by rw [ht]) _ z
    · dsimp only at z ⊢; unfold run.sl.v520; exact export_eq _ _ _ _ hd _ _ (fun _ => rfl) 1476 5 (by decide) rfl _ (by decide) rfl _ (by rw [ht]) _ z
    · dsimp only at z ⊢; unfold run.sl.v515; exact export_eq _ _ _ _ hd _ _ (fun _ => rfl) 1184 4 (by decide) rfl _ (by decide) rfl _ (by rw [ht]) _ z
    · dsimp only at z ⊢; unfold run.sl.v510; exact export_eq _ _ _ _ hd _ _ (fun _ => rfl) 892 3 (by decide) rfl _ (by decide) rfl _ (by rw [ht]) _ z
    · dsimp only at z ⊢; unfold run.sl.v505; exact export_eq _ _ _ _ hd _ _ (fun _ => rfl) 600 2 (by decide) rfl _ (by decide) rfl _ (by rw [ht]) _ z
    · dsimp only at z ⊢; unfold run.sl.v500; exact export_eq _ _ _ _ hd _ _ (fun _ => rfl) 308 1 (by decide) rfl _ (by decide) rfl _ (by rw [ht]) _ z
    · dsimp only at z ⊢; unfold run.sl.v495; exact export_eq _ _ _ _ hd _ _ (fun _ => rfl) 16 0 (by decide) rfl _ (by decide) rfl _ (by rw [ht]) _ z
  · exact hs.2 p hp

/-- The pieces cover the output. -/
theorem run_cover (y : S2048x1024.Idx) : ∃ p ∈ (run (F := F) c arg0 harg0 arg1 harg1 arg2 harg2 arg3 harg3 arg4 harg4 arg5 harg5 arg7 harg7 x0 x1 x2 x3 x4 g6).1, y ∈ p.1.set :=
  View.cover_of_tiledL (run (F := F) c arg0 harg0 arg1 harg1 arg2 harg2 arg3 harg3 arg4 harg4 arg5 harg5 arg7 harg7 x0 x1 x2 x3 x4 g6).1 S256x128.size (by sl_kernel_rfl) y

/-- So the output's buffer, written with them, holds the gated product. -/
theorem run_read (f : BufTy.Contents (Elt F) arg5.view.ty) :
    arg5.view.read (Elt F) (arg5.view.writes (Elt F) f (run (F := F) c arg0 harg0 arg1 harg1 arg2 harg2 arg3 harg3 arg4 harg4 arg5 harg5 arg7 harg7 x0 x1 x2 x3 x4 g6).1) = hAt x0 x1 (scRow x2 x4) x3 := by
  funext y
  rw [View.read_writes_eq_canon _ _ _ (run_cover c arg0 harg0 arg1 harg1 arg2 harg2 arg3 harg3 arg4 harg4 arg5 harg5 arg7 harg7 x0 x1 x2 x3 x4 g6)]
  exact View.canon_apply_of_pieces _ _ (run_agree c arg0 harg0 arg1 harg1 arg2 harg2 arg3 harg3 arg4 harg4 arg5 harg5 arg7 harg7 x0 x1 x2 x3 x4 g6) y (run_cover c arg0 harg0 arg1 harg1 arg2 harg2 arg3 harg3 arg4 harg4 arg5 harg5 arg7 harg7 x0 x1 x2 x3 x4 g6 y)

end

end Cert.KernelMm.Mm

end
-- ==== Proof.MmBitsFrame.lean ====
/- The frame of the product kernel: the body obligation from the whole body's run, the launch, the result array named. -/
module

public import proofs.«01_k».proof.Proof.MmBitsBody
public import Idealize.ShloMosaic.Lib.Pipeline.Value

@[expose] public section

set_option maxRecDepth 16384

noncomputable section

namespace Cert.KernelMm.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMm Cert.KernelMm.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0_0 (t : Fin cfg0.N) : Memref sig .tc .vmem S2048x1024 .fp8e4m3 := win0_0.stage (cfg0.slots t 0)
abbrev ms0_1 (t : Fin cfg0.N) : Memref sig .tc .vmem S1024x2048 .fp8e4m3 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S1x2048 .f32 := win0_3.stage (cfg0.slots t 3)
abbrev ms0_4 (t : Fin cfg0.N) : Memref sig .tc .smem S1x1 .f32 := win0_4.stage (cfg0.slots t 4)
abbrev ms0_5 (t : Fin cfg0.N) : Memref sig .tc .vmem S2048x1024 .f32 := win0_5.stage (cfg0.slots t 5)

/-- What the output's staging buffer holds after the body: the gated product of the point's blocks. -/
def outAt0 (c : Dev nD) (t : Fin cfg0.N) : Vec F S2048x1024 .f32 :=
  hAt (iblk m c 0 t) (iblk m c 1 t) (scRow (iblk m c 2 t) (iblk m c 4 t)) (iblk m c 3 t)

/-- The proof data of the one pipeline: the arrays as the region finds them; after the body each input's buffer at its block and
    the output's at the gated product; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt0 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The invariant: the two slots at some contents, the scale row's buffer at some contents, and the generator register. -/
theorem PhiA0_eq (c : Dev nD) :
    (Pipeline.ΦA spec0 c : sProp 𝕄)
      = iprop(iprop((∃ f : Buf (Elt F) ((c : Thread nD τ).loc cc0_scratch0), ((c : Thread nD τ).loc cc0_scratch0) ↦{fullShare} f)
          ∗ (∃ d, owns (c : Thread nD τ) (Memref.whole cc0_scratch1 : Memref sig .tc .vmem S1x2048 .f32) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: its run applies, and what it writes to the output is the gated product, whatever the slots held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outAt0
  iintro ⟨⟨⟨⟨%g6, HS0⟩, HS1⟩, Hg⟩, Ho, ⟨%d0, H0⟩, ⟨%d1, H1⟩, ⟨%d2, H2⟩, ⟨%d3, H3⟩, ⟨%d4, H4⟩, ⟨%d5, H5⟩⟩
  iapply ((run (F := F) c _ _ _ _ _ _ _ _ _ _ _ _ _ _ (iblk m c 0 t) (iblk m c 1 t) (iblk m c 2 t) (iblk m c 3 t) (iblk m c 4 t) g6).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact run_read c _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion with this one, which takes unfolding plain
-- definitions in a metavariable's type
set_option backward.isDefEq.respectTransparency.types false in
/-- The launch, with every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame, with the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelMm.Mm

end
-- ==== Proof.MmTrip.lean ====
/- One trip of the loop of the product kernel, and the loop by its invariant. -/
module

public import proofs.«01_k».proof.Proof.Gen.KernelMmIdeal.Frame
public import proofs.«01_k».proof.Proof.Gen.KernelMmIdeal.Launch
public import proofs.«01_k».proof.Proof.Gen.KernelMmIdeal.Skeleton
public import proofs.«01_k».proof.Proof.Gen.KernelMmIdeal.Loops
public import proofs.«01_k».proof.Proof.Gen.KernelMmIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelMmIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelMmIdeal.Gen

variable {F : FTy → Type} [FloatOps F]

local notation "𝕄" => MT nD τ sig Unit (Elt F) ℕ (UR sig nD τ) ℕ

/-- The buffers one trip touches: four inputs it reads, the output, and the two slots it reads and writes. -/
abbrev Held (c : Dev nD) (arg0 : Memref sig .tc .vmem S2048x1024 .fp8e4m3) (arg1 : Memref sig .tc .vmem S1024x2048 .fp8e4m3)
    (arg3 : Memref sig .tc .vmem S1x2048 .f32) (arg7 : Memref sig .tc .vmem S1x2048 .f32)
    (arg5 : Memref sig .tc .vmem S2048x1024 .f32)
    (X0 : BufTy.Contents (Elt F) arg0.view.ty) (X1 : BufTy.Contents (Elt F) arg1.view.ty)
    (X3 : BufTy.Contents (Elt F) arg3.view.ty) (X7 : BufTy.Contents (Elt F) arg7.view.ty)
    (f5 : BufTy.Contents (Elt F) arg5.view.ty) (f6 : BufTy.Contents (Elt F) cc0_scratch0.ty) : sProp 𝕄 :=
  iprop((arg0.view.loc (c : Thread nD τ) ↦[arg0.view.set]{fullShare} X0) ∗ (arg1.view.loc (c : Thread nD τ) ↦[arg1.view.set]{fullShare} X1)
    ∗ (arg3.view.loc (c : Thread nD τ) ↦[arg3.view.set]{fullShare} X3) ∗ (arg7.view.loc (c : Thread nD τ) ↦[arg7.view.set]{fullShare} X7)
    ∗ (arg5.view.loc (c : Thread nD τ) ↦[arg5.view.set]{fullShare} f5) ∗ ((Memref.whole cc0_scratch0 : Memref sig .tc .vmem S2x2336x128 .f32).view.loc (c : Thread nD τ) ↦{fullShare} f6))

set_option maxHeartbeats 4000000 in
/-- One trip: what it leaves in the two slots, and what it writes to the output, from what the slots held. -/
@[irreducible] def trip (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (X0 : BufTy.Contents (Elt F) arg0.view.ty) (X1 : BufTy.Contents (Elt F) arg1.view.ty)
    (X3 : BufTy.Contents (Elt F) arg3.view.ty) (X7 : BufTy.Contents (Elt F) arg7.view.ty)
    (f6 : BufTy.Contents (Elt F) cc0_scratch0.ty) (k : Fin k0_t1_loop.trips) :
    { p : BufTy.Contents (Elt F) cc0_scratch0.ty × List (View.Piece (Elt F) S2048x1024 .f32) //
      ∀ (E : Set ℕ) (f5 : BufTy.Contents (Elt F) arg5.view.ty),
        Held (F := F) c arg0 arg1 arg3 arg7 arg5 X0 X1 X3 X7 f5 f6
        ⊢ wp frame (wpE (defs₀ (F := F)) Variants.none (c : Thread nD τ) none) E (k0_t1_body (F := F) arg0 harg0 arg1 harg1 arg2 harg2 arg3 harg3 arg4 harg4 arg5 harg5 (Memref.whole cc0_scratch0) (Memref.isWhole_whole _) arg7 harg7 0#32 1#32 k PUnit.unit)
            (fun _ => Held (F := F) c arg0 arg1 arg3 arg7 arg5 X0 X1 X3 X7 (arg5.view.writes (Elt F) f5 p.2) p.1) } := by
  have hk : k.val < 7 := Nat.lt_of_lt_of_le k.isLt k0_t1_abs.2.1
  refine ⟨⟨?_, ?_⟩, fun E f5 => ?run⟩
  case run =>
    unfold k0_t1_body
    iintro ⟨H0, H1, H3, H7, H5, H6⟩
    sl_exec
    sl_step
    isplitl [H0]; · iexact H0
    isplitl [H1]; · iexact H1
    isplitl [H3]; · iexact H3
    isplitl [H7]; · iexact H7
    isplitl [H5]; · iexact H5
    iexact H6

/-- Trip `k`'s step of the state the loop carries: what the slots hold and what has been written to the output. -/
@[irreducible] def stStep (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (X0 : BufTy.Contents (Elt F) arg0.view.ty) (X1 : BufTy.Contents (Elt F) arg1.view.ty)
    (X3 : BufTy.Contents (Elt F) arg3.view.ty) (X7 : BufTy.Contents (Elt F) arg7.view.ty)
    (k : ℕ) (s : BufTy.Contents (Elt F) cc0_scratch0.ty × List (View.Piece (Elt F) S2048x1024 .f32)) :
    BufTy.Contents (Elt F) cc0_scratch0.ty × List (View.Piece (Elt F) S2048x1024 .f32) :=
  if h : k < k0_t1_loop.trips then
    ((trip (F := F) c arg0 harg0 arg1 harg1 arg2 harg2 arg3 harg3 arg4 harg4 arg5 harg5 arg7 harg7 X0 X1 X3 X7 s.1 ⟨k, h⟩).1.1, (trip (F := F) c arg0 harg0 arg1 harg1 arg2 harg2 arg3 harg3 arg4 harg4 arg5 harg5 arg7 harg7 X0 X1 X3 X7 s.1 ⟨k, h⟩).1.2 ++ s.2)
  else s

/-- The state before trip `k`, from what the slots held at the loop's entry. -/
def st (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (X0 : BufTy.Contents (Elt F) arg0.view.ty) (X1 : BufTy.Contents (Elt F) arg1.view.ty)
    (X3 : BufTy.Contents (Elt F) arg3.view.ty) (X7 : BufTy.Contents (Elt F) arg7.view.ty)
    (G6 : BufTy.Contents (Elt F) cc0_scratch0.ty) : ℕ → BufTy.Contents (Elt F) cc0_scratch0.ty × List (View.Piece (Elt F) S2048x1024 .f32)
  | 0 => (G6, [])
  | k + 1 => stStep c arg0 harg0 arg1 harg1 arg2 harg2 arg3 harg3 arg4 harg4 arg5 harg5 arg7 harg7 X0 X1 X3 X7 k (st c arg0 harg0 arg1 harg1 arg2 harg2 arg3 harg3 arg4 harg4 arg5 harg5 arg7 harg7 X0 X1 X3 X7 G6 k)

theorem st_succ (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (X0 : BufTy.Contents (Elt F) arg0.view.ty) (X1 : BufTy.Contents (Elt F) arg1.view.ty)
    (X3 : BufTy.Contents (Elt F) arg3.view.ty) (X7 : BufTy.Contents (Elt F) arg7.view.ty)
    (G6 : BufTy.Contents (Elt F) cc0_scratch0.ty) (k : Fin k0_t1_loop.trips) :
    st (F := F) c arg0 harg0 arg1 harg1 arg2 harg2 arg3 harg3 arg4 harg4 arg5 harg5 arg7 harg7 X0 X1 X3 X7 G6 (k.val + 1)
      = ((trip (F := F) c arg0 harg0 arg1 harg1 arg2 harg2 arg3 harg3 arg4 harg4 arg5 harg5 arg7 harg7 X0 X1 X3 X7 (st (F := F) c arg0 harg0 arg1 harg1 arg2 harg2 arg3 harg3 arg4 harg4 arg5 harg5 arg7 harg7 X0 X1 X3 X7 G6 k.val).1 k).1.1,
        (trip (F := F) c arg0 harg0 arg1 harg1 arg2 harg2 arg3 harg3 arg4 harg4 arg5 harg5 arg7 harg7 X0 X1 X3 X7 (st (F := F) c arg0 harg0 arg1 harg1 arg2 harg2 arg3 harg3 arg4 harg4 arg5 harg5 arg7 harg7 X0 X1 X3 X7 G6 k.val).1 k).1.2
          ++ (st (F := F) c arg0 harg0 arg1 harg1 arg2 harg2 arg3 harg3 arg4 harg4 arg5 harg5 arg7 harg7 X0 X1 X3 X7 G6 k.val).2) := by
  rw [st.eq_2]; unfold stStep; exact dif_pos k.isLt

/-- What the loop keeps: before trip `k` the buffers hold the state `st` says. -/
abbrev Inv (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (X0 : BufTy.Contents (Elt F) arg0.view.ty) (X1 : BufTy.Contents (Elt F) arg1.view.ty)
    (X3 : BufTy.Contents (Elt F) arg3.view.ty) (X7 : BufTy.Contents (Elt F) arg7.view.ty)
    (G5 : BufTy.Contents (Elt F) arg5.view.ty) (G6 : BufTy.Contents (Elt F) cc0_scratch0.ty) (k : ℕ) (_u : PUnit) : sProp 𝕄 :=
  iprop((arg0.view.loc (c : Thread nD τ) ↦[arg0.view.set]{fullShare} X0) ∗ (arg1.view.loc (c : Thread nD τ) ↦[arg1.view.set]{fullShare} X1) ∗ (arg3.view.loc (c : Thread nD τ) ↦[arg3.view.set]{fullShare} X3) ∗ (arg7.view.loc (c : Thread nD τ) ↦[arg7.view.set]{fullShare} X7)
      ∗ (∃ f5, (arg5.view.loc (c : Thread nD τ) ↦[arg5.view.set]{fullShare} f5) ∗ ⌜f5 = arg5.view.writes (Elt F) G5 (st (F := F) c arg0 harg0 arg1 harg1 arg2 harg2 arg3 harg3 arg4 harg4 arg5 harg5 arg7 harg7 X0 X1 X3 X7 G6 k).2⌝)
      ∗ (∃ f6, ((Memref.whole cc0_scratch0 : Memref sig .tc .vmem S2x2336x128 .f32).view.loc (c : Thread nD τ) ↦{fullShare} f6) ∗ ⌜f6 = (st (F := F) c arg0 harg0 arg1 harg1 arg2 harg2 arg3 harg3 arg4 harg4 arg5 harg5 arg7 harg7 X0 X1 X3 X7 G6 k).1⌝))

set_option warn.classDefReducibility false in
/-- The loop by its invariant: before trip `k` the buffers hold the state `st` says. -/
@[sl_loop] def loopInv (c : Dev nD) (E : Set ℕ) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (X0 : BufTy.Contents (Elt F) arg0.view.ty) (X1 : BufTy.Contents (Elt F) arg1.view.ty)
    (X3 : BufTy.Contents (Elt F) arg3.view.ty) (X7 : BufTy.Contents (Elt F) arg7.view.ty)
    (G5 : BufTy.Contents (Elt F) arg5.view.ty) (G6 : BufTy.Contents (Elt F) cc0_scratch0.ty) :
    LoopInvTy_k0_t1 (F := F) Unit ℕ (UR sig nD τ) ℕ Variants.none c none E arg0 harg0 arg1 harg1 arg2 harg2 arg3 harg3 arg4 harg4 arg5 harg5 (Memref.whole cc0_scratch0) (Memref.isWhole_whole _) arg7 harg7 0#32 1#32 where
  inv := Inv (F := F) c arg0 harg0 arg1 harg1 arg2 harg2 arg3 harg3 arg4 harg4 arg5 harg5 arg7 harg7 X0 X1 X3 X7 G5 G6
  step k acc := by
    iintro ⟨H0, H1, H3, H7, ⟨%f5, H5, %h5⟩, ⟨%f6, H6, %h6⟩⟩
    obtain rfl := h5; obtain rfl := h6
    iapply (wp_wand_r Idealize.ShloMosaic.frame (wpE (defs₀ (F := F)) Variants.none (c : Thread nD τ) none) E)
    isplitl [H0 H1 H3 H7 H5 H6]
    · iapply ((trip (F := F) c arg0 harg0 arg1 harg1 arg2 harg2 arg3 harg3 arg4 harg4 arg5 harg5 arg7 harg7 X0 X1 X3 X7 (st (F := F) c arg0 harg0 arg1 harg1 arg2 harg2 arg3 harg3 arg4 harg4 arg5 harg5 arg7 harg7 X0 X1 X3 X7 G6 k.val).1 k).2 E _)
      isplitl [H0]; · iexact H0
      isplitl [H1]; · iexact H1
      isplitl [H3]; · iexact H3
      isplitl [H7]; · iexact H7
      isplitl [H5]; · iexact H5
      iexact H6
    · iintro %_ ⟨H0, H1, H3, H7, H5, H6⟩
      unfold Inv; rw [st_succ]
      isplitl [H0]; · iexact H0
      isplitl [H1]; · iexact H1
      isplitl [H3]; · iexact H3
      isplitl [H7]; · iexact H7
      isplitl [H5]
      · iexists _; isplitl [H5]; · iexact H5
        ipureintro; rw [← View.writes_append]
      iexists _; isplitl [H6]; · iexact H6
      ipureintro; rfl

end Cert.KernelMmIdeal.Mm

end
-- ==== Proof.MmRun.lean ====
/- The whole body of the product kernel, run through its loop. -/
module

public import proofs.«01_k».proof.Proof.Gen.KernelMmIdeal.Frame
public import proofs.«01_k».proof.Proof.MmTrip
public import proofs.«01_k».proof.Proof.Gen.KernelMmIdeal.Launch
public import proofs.«01_k».proof.Proof.Gen.KernelMmIdeal.Skeleton
public import proofs.«01_k».proof.Proof.Gen.KernelMmIdeal.Loops
public import proofs.«01_k».proof.Proof.Gen.KernelMmIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelMmIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelMmIdeal.Gen

variable {F : FTy → Type} [FloatOps F]

local notation "𝕄" => MT nD τ sig Unit (Elt F) ℕ (UR sig nD τ) ℕ

set_option maxHeartbeats 4000000 in
/-- The whole body: the pieces it writes to the output, from what the slots held before. -/
def run (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (x0 : Vec F S2048x1024 .fp8e4m3) (x1 : Vec F S1024x2048 .fp8e4m3) (x2 : Vec F S1x2048 .f32) (x3 : Vec F S1x2048 .f32) (x4 : Vec F S1x1 .f32)
    (g6 : BufTy.Contents (Elt F) cc0_scratch0.ty) :
    { L5 : List (View.Piece (Elt F) S2048x1024 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
            ∗ ((Memref.whole cc0_scratch0 : Memref sig .tc .vmem S2x2336x128 .f32).view.loc (c : Thread nD τ) ↦{fullShare} g6) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5)
              ∗ (∃ f, (Memref.whole cc0_scratch0 : Memref sig .tc .vmem S2x2336x128 .f32).view.loc (c : Thread nD τ) ↦{fullShare} f) ∗ (∃ d, owns (c : Thread nD τ) arg7 fullShare d)) -∗ K ⟨⟩))
          ⊢ wp frame (wpE (defs₀ (F := F)) Variants.none c none) E (cc0_conformer_conv_mm arg0 harg0 arg1 harg1 arg2 harg2 arg3 harg3 arg4 harg4 arg5 harg5 (Memref.whole cc0_scratch0) (Memref.isWhole_whole _) arg7 harg7) K } := by
  refine ⟨?_, fun E K => ?run⟩
  case run =>
    rw [cc0_conformer_conv_mm_eq_skeleton]; unfold cc0_conformer_conv_mm_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, H6, ⟨%ds1, %fs1, -, H7⟩, Hk⟩
    obtain rfl := harg0.eq_unread hf0; obtain rfl := harg1.eq_unread hf1; obtain rfl := harg2.eq_unread hf2; obtain rfl := harg3.eq_unread hf3; obtain rfl := harg4.eq_unread hf4
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _, _; isplitr; swap; · iexact H7
    ipureintro; rfl

end Cert.KernelMmIdeal.Mm

end
-- ==== Proof.MmSlots.lean ====
/- What a store or a load through one of the two slots does to the elements of the scratch buffer. -/
module

public import proofs.«01_k».proof.Proof.MmRun
public import Idealize.ShloMosaic.Lib.Pointwise
public import Idealize.ShloMosaic.Lib.ValueLayout

@[expose] public section

set_option maxRecDepth 16384

noncomputable section

namespace Cert.KernelMmIdeal.Mm

open Idealize.ShloMosaic Idealize.ShloMosaic.TcCoe Idealize.ShloMosaic.Tactic
open Idealize.SL.Sem
open Cert.KernelMmIdeal Cert.KernelMmIdeal.Gen

variable {F : FTy → Type} [FloatOps F]

/-- The rows `R … R + n - 1` of one slot. -/
abbrev slotV (off : Fin 3 → ℕ) (p1 : ∀ a, off a + S1x2336x128.size a ≤ S2x2336x128.size a)
    (p2 : ∀ a, (Rect.unit (s := S2x2336x128) off S1x2336x128.size p1).stride a = 1) (R n : ℕ)
    (inb : ∀ a, (![R, 0] : Fin 2 → ℕ) a + (![n, 128] : Fin 2 → ℕ) a ≤ S2336x128.size a) :=
  ((((Memref.whole cc0_scratch0 : Memref sig .tc .vmem S2x2336x128 .f32).slice (Rect.unit (s := S2x2336x128) off S1x2336x128.size p1) p2).squeeze S2336x128
      squeezes_S1x2336x128_S2336x128).access (Rect.unit (s := S2336x128) ![R, 0] ![n, 128] inb))

theorem slot_emb (off : Fin 3 → ℕ) (p1 : ∀ a, off a + S1x2336x128.size a ≤ S2x2336x128.size a)
    (p2 : ∀ a, (Rect.unit (s := S2x2336x128) off S1x2336x128.size p1).stride a = 1) (R n : ℕ)
    (inb : ∀ a, (![R, 0] : Fin 2 → ℕ) a + (![n, 128] : Fin 2 → ℕ) a ≤ S2336x128.size a)
    (s : ℕ) (hs : s < 2) (hoff : off = ![s, 0, 0]) (a : Fin n) (l : Fin 128) (hr : R + a.val < 2336) :
    (slotV off p1 p2 R n inb).emb (ix2 a l) = (ix3 (⟨s, hs⟩ : Fin 2) (⟨R + a.val, hr⟩ : Fin 2336) l : S2x2336x128.Idx) := by
  subst hoff
  have e : (Rect.unit (s := S2336x128) ![R, 0] ![n, 128] inb).emb (ix2 a l) = ix2 (⟨R + a.val, hr⟩ : Fin 2336) l := by
    funext b
    apply Fin.ext
    match b with
    | ⟨0, _⟩ => show R + 1 * a.val = R + a.val; rw [Nat.one_mul]
    | ⟨1, _⟩ => show 0 + 1 * l.val = l.val; rw [Nat.one_mul, Nat.zero_add]
  show (Rect.unit (s := S2x2336x128) ![s, 0, 0] S1x2336x128.size p1).emb
    (Shape.reshapeEquiv _ ((Rect.unit (s := S2336x128) ![R, 0] ![n, 128] inb).emb (ix2 a l))) = _
  rw [e]
  refine (congrArg _ (ValueIdx.reshapeEquiv_ix2_1ab (a := 2336) (b := 128) _ _ _)).trans ?_
  funext b
  apply Fin.ext
  match b with
  | ⟨0, _⟩ => show s + 1 * 0 = s; rfl
  | ⟨1, _⟩ => show 0 + 1 * (R + a.val) = R + a.val; rw [Nat.one_mul, Nat.zero_add]
  | ⟨2, _⟩ => show 0 + 1 * l.val = l.val; rw [Nat.one_mul, Nat.zero_add]

theorem slot_inb {R n : ℕ} (inb : ∀ a, (![R, 0] : Fin 2 → ℕ) a + (![n, 128] : Fin 2 → ℕ) a ≤ S2336x128.size a) : R + n ≤ 2336 := inb 0

/-- A store of `n` rows at row `R` of slot `s`: those rows take the payload, -/
theorem slot_write_hit (off : Fin 3 → ℕ) (p1 : ∀ a, off a + S1x2336x128.size a ≤ S2x2336x128.size a)
    (p2 : ∀ a, (Rect.unit (s := S2x2336x128) off S1x2336x128.size p1).stride a = 1) (R n : ℕ)
    (inb : ∀ a, (![R, 0] : Fin 2 → ℕ) a + (![n, 128] : Fin 2 → ℕ) a ≤ S2336x128.size a)
    (s : ℕ) (hoff : off = ![s, 0, 0]) (f : S2x2336x128.Idx → Elt F .f32) (w : (⟨2, ![n, 128]⟩ : Shape).Idx → Elt F .f32)
    (q : Fin 2) (r : Fin 2336) (l : Fin 128) (a : Fin n) (hq : q.val = s) (hr : r.val = R + a.val) :
    (View.write (Elt F) (slotV off p1 p2 R n inb) f w Finset.univ : S2x2336x128.Idx → Elt F .f32) (ix3 q r l) = w (ix2 a l) := by
  have hs : s < 2 := hq ▸ q.isLt
  have hlt : R + a.val < 2336 := hr ▸ r.isLt
  have e : (ix3 q r l : S2x2336x128.Idx) = (slotV off p1 p2 R n inb).emb (ix2 a l) := by
    rw [slot_emb off p1 p2 R n inb s hs hoff a l hlt]
    congr 1
    · exact Fin.ext hq
    · exact Fin.ext hr
  rw [e]
  exact View.write_emb_of_mem _ _ (Finset.mem_univ _)

/-- and every other row keeps what it held. -/
theorem slot_write_miss (off : Fin 3 → ℕ) (p1 : ∀ a, off a + S1x2336x128.size a ≤ S2x2336x128.size a)
    (p2 : ∀ a, (Rect.unit (s := S2x2336x128) off S1x2336x128.size p1).stride a = 1) (R n : ℕ)
    (inb : ∀ a, (![R, 0] : Fin 2 → ℕ) a + (![n, 128] : Fin 2 → ℕ) a ≤ S2336x128.size a)
    (s : ℕ) (hs : s < 2) (hoff : off = ![s, 0, 0]) (f : S2x2336x128.Idx → Elt F .f32) (w : (⟨2, ![n, 128]⟩ : Shape).Idx → Elt F .f32)
    (q : Fin 2) (r : Fin 2336) (l : Fin 128) (h : ¬ (q.val = s ∧ R ≤ r.val ∧ r.val < R + n)) :
    (View.write (Elt F) (slotV off p1 p2 R n inb) f w Finset.univ : S2x2336x128.Idx → Elt F .f32) (ix3 q r l) = f (ix3 q r l) := by
  refine View.write_of_not_mem _ _ _ ?_
  intro hm
  unfold View.setOn at hm
  obtain ⟨x, -, hx⟩ := Finset.mem_map.mp hm
  have hn := slot_inb inb
  have hxe : x = ix2 (x 0 : Fin n) (x 1 : Fin 128) := eq_ix2 x
  rw [hxe] at hx
  have hx' := (slot_emb off p1 p2 R n inb s hs hoff (x 0) (x 1) (by have h0 : (x 0 : Fin n).val < n := (x 0).isLt; omega)).symm.trans hx
  apply h
  have h0 : s = q.val := congrArg Fin.val (congrFun hx' 0)
  have h1 : R + (x 0 : Fin n).val = r.val := congrArg Fin.val (congrFun hx' 1)
  have h2 : (x 0 : Fin n).val < n := (x 0).isLt
  omega

/-- A load of `n` rows at row `R` of slot `s` reads those rows. -/
theorem slot_read (off : Fin 3 → ℕ) (p1 : ∀ a, off a + S1x2336x128.size a ≤ S2x2336x128.size a)
    (p2 : ∀ a, (Rect.unit (s := S2x2336x128) off S1x2336x128.size p1).stride a = 1) (R n : ℕ)
    (inb : ∀ a, (![R, 0] : Fin 2 → ℕ) a + (![n, 128] : Fin 2 → ℕ) a ≤ S2336x128.size a)
    (s : ℕ) (hs : s < 2) (hoff : off = ![s, 0, 0]) (f : S2x2336x128.Idx → Elt F .f32) (a : Fin n) (l : Fin 128) (hlt : R + a.val < 2336) :
    View.readAt (Elt F) (((Memref.whole cc0_scratch0 : Memref sig .tc .vmem S2x2336x128 .f32).slice (Rect.unit (s := S2x2336x128) off S1x2336x128.size p1) p2).squeeze S2336x128
      squeezes_S1x2336x128_S2336x128).view (Rect.unit (s := S2336x128) ![R, 0] ![n, 128] inb).toLoadRect f (ix2 a l)
      = f (ix3 (⟨s, hs⟩ : Fin 2) (⟨R + a.val, hlt⟩ : Fin 2336) l) :=
  congrArg f (slot_emb off p1 p2 R n inb s hs hoff a l hlt)

/-- The first row of block `i` of 128 rows in a slot: two blocks to a batch, the batches 292 rows apart. -/
abbrev row (i : ℕ) : ℕ := 292 * (i / 2) + 16 + 128 * (i % 2)

/-- The first `n` blocks of slot `s` hold `G`. -/
def Done (G : ℕ → FVec F S128x128 .f32) (s n : ℕ) (f : S2x2336x128.Idx → Elt F .f32) : Prop :=
  ∀ i < n, ∀ (a l : Fin 128) (q : Fin 2) (r : Fin 2336), q.val = s → r.val = row i + a.val → f (ix3 q r l) = G i (ix2 a l)

/-- Storing block `n` extends them by one, -/
theorem Done.data {G : ℕ → FVec F S128x128 .f32} {s n : ℕ} {f : S2x2336x128.Idx → Elt F .f32} (h : Done G s n f)
    {off : Fin 3 → ℕ} {p1 : ∀ a, off a + S1x2336x128.size a ≤ S2x2336x128.size a}
    {p2 : ∀ a, (Rect.unit (s := S2x2336x128) off S1x2336x128.size p1).stride a = 1} {R : ℕ}
    {inb : ∀ a, (![R, 0] : Fin 2 → ℕ) a + (![128, 128] : Fin 2 → ℕ) a ≤ S2336x128.size a}
    (hs : s < 2) (hoff : off = ![s, 0, 0]) (hR : R = row n) {w : S128x128.Idx → Elt F .f32} (hw : w = G n) :
    Done G s (n + 1) (View.write (Elt F) (slotV off p1 p2 R 128 inb) f w Finset.univ) := by
  intro i hi a l q r hq hr
  by_cases hin : i = n
  · subst hin
    rw [slot_write_hit off p1 p2 R 128 inb s hoff f w q r l a hq (by rw [hr, hR]), hw]
  · rw [slot_write_miss off p1 p2 R 128 inb s hs hoff f w q r l (by
      have := a.isLt
      unfold row at hr hR
      omega)]
    exact h i (by omega) a l q r hq hr

/-- storing a halo of 16 rows leaves them, -/
theorem Done.halo {G : ℕ → FVec F S128x128 .f32} {s n : ℕ} {f : S2x2336x128.Idx → Elt F .f32} (h : Done G s n f)
    {off : Fin 3 → ℕ} {p1 : ∀ a, off a + S1x2336x128.size a ≤ S2x2336x128.size a}
    {p2 : ∀ a, (Rect.unit (s := S2x2336x128) off S1x2336x128.size p1).stride a = 1} {R : ℕ}
    {inb : ∀ a, (![R, 0] : Fin 2 → ℕ) a + (![16, 128] : Fin 2 → ℕ) a ≤ S2336x128.size a}
    (hs : s < 2) (hoff : off = ![s, 0, 0]) (hR : R % 292 = 0 ∨ R % 292 = 272) {w : S16x128.Idx → Elt F .f32} :
    Done G s n (View.write (Elt F) (slotV off p1 p2 R 16 inb) f w Finset.univ) := by
  intro i hi a l q r hq hr
  rw [slot_write_miss off p1 p2 R 16 inb s hs hoff f w q r l (by
      have := a.isLt
      unfold row at hr
      rcases Nat.lt_trichotomy (R / 292) (i / 2) with hc | hc | hc <;> rcases hR with hR | hR <;> omega)]
  exact h i hi a l q r hq hr

/-- and so does any store into the other slot. -/
theorem Done.other {G : ℕ → FVec F S128x128 .f32} {s n : ℕ} {f : S2x2336x128.Idx → Elt F .f32} (h : Done G s n f)
    {off : Fin 3 → ℕ} {p1 : ∀ a, off a + S1x2336x128.size a ≤ S2x2336x128.size a}
    {p2 : ∀ a, (Rect.unit (s := S2x2336x128) off S1x2336x128.size p1).stride a = 1} {R k : ℕ}
    {inb : ∀ a, (![R, 0] : Fin 2 → ℕ) a + (![k, 128] : Fin 2 → ℕ) a ≤ S2336x128.size a}
    (s' : ℕ) (hs : s' < 2) (hne : s ≠ s') (hoff : off = ![s', 0, 0]) {w : (⟨2, ![k, 128]⟩ : Shape).Idx → Elt F .f32} :
    Done G s n (View.write (Elt F) (slotV off p1 p2 R k inb) f w Finset.univ) := by
  intro i hi a l q r hq hr
  rw [slot_write_miss off p1 p2 R k inb s' hs hoff f w q r l (by omega)]
  exact h i hi a l q r hq hr

/-! ## The operands' blocks -/

/-- Rows `128 i …` of the codes. -/
def blkX (x : Vec F S2048x1024 .fp8e4m3) (i : ℕ) : Vec F S128x1024 .fp8e4m3 := fun z =>
  x (ix2 ⟨(128 * i + (z 0 : Fin 128).val) % 2048, Nat.mod_lt _ (by decide)⟩ (z 1))
/-- Columns `o …` of the weights. -/
def blkW (x : Vec F S1024x2048 .fp8e4m3) (o : ℕ) : Vec F S1024x128 .fp8e4m3 := fun z =>
  x (ix2 (z 0) ⟨(o + (z 1 : Fin 128).val) % 2048, Nat.mod_lt _ (by decide)⟩)
/-- Columns `o …` of a row. -/
def blkR (x : Vec F S1x2048 .f32) (o : ℕ) : Vec F S1x128 .f32 := fun z =>
  x (ix2 (z 0) ⟨(o + (z 1 : Fin 128).val) % 2048, Nat.mod_lt _ (by decide)⟩)

/-- Block `i` of 128 rows of column block `c` of the gated product. -/
def H (x0 : Vec F S2048x1024 .fp8e4m3) (x1 : Vec F S1024x2048 .fp8e4m3) (sc b : Vec F S1x2048 .f32) (c i : ℕ) : FVec F S128x128 .f32 :=
  k0_pay6 (k0_pay1 (blkW x1 (128 * c)) (blkW x1 (1024 + 128 * c))) (blkR sc (128 * c)) (blkR sc (1024 + 128 * c))
    (k0_pay2 (blkR b (128 * c))) (k0_pay3 (blkR b (1024 + 128 * c))) (blkX x0 i)

/-- The gated product. -/
def hAt (x0 : Vec F S2048x1024 .fp8e4m3) (x1 : Vec F S1024x2048 .fp8e4m3) (sc b : Vec F S1x2048 .f32) : Vec F S2048x1024 .f32 := fun y =>
  H x0 x1 sc b ((y 1 : Fin 1024).val / 128) ((y 0 : Fin 2048).val / 128)
    (ix2 ⟨(y 0 : Fin 2048).val % 128, Nat.mod_lt _ (by decide)⟩ ⟨(y 1 : Fin 1024).val % 128, Nat.mod_lt _ (by decide)⟩)

theorem rdX (v : View sig .tc .vmem S2048x1024 .fp8e4m3) (X : BufTy.Contents (Elt F) v.ty) (off : Fin 2 → ℕ) (i : ℕ) (hoff : off = ![128 * i, 0])
    (inb : ∀ a, off a + S128x1024.size a ≤ S2048x1024.size a) :
    View.readAt (Elt F) v (Rect.unit (s := S2048x1024) off S128x1024.size inb).toLoadRect X = blkX (v.read (Elt F) X) i := by
  subst hoff
  funext z
  refine congrArg (v.read (Elt F) X) ?_
  have h : 128 * i + 128 ≤ 2048 := inb 0
  have h0 : (z 0 : Fin 128).val < 128 := (z 0).isLt
  funext a
  apply Fin.ext
  match a with
  | ⟨0, _⟩ => show 128 * i + 1 * (z 0 : Fin 128).val = (128 * i + (z 0 : Fin 128).val) % 2048; omega
  | ⟨1, _⟩ => show 0 + 1 * (z 1 : Fin 1024).val = (z 1 : Fin 1024).val; omega

theorem rdW (v : View sig .tc .vmem S1024x2048 .fp8e4m3) (X : BufTy.Contents (Elt F) v.ty) (off : Fin 2 → ℕ) (o : ℕ) (hoff : off = ![0, o])
    (inb : ∀ a, off a + S1024x128.size a ≤ S1024x2048.size a) :
    View.readAt (Elt F) v (Rect.unit (s := S1024x2048) off S1024x128.size inb).toLoadRect X = blkW (v.read (Elt F) X) o := by
  subst hoff
  funext z
  refine congrArg (v.read (Elt F) X) ?_
  have h : o + 128 ≤ 2048 := inb 1
  have h1 : (z 1 : Fin 128).val < 128 := (z 1).isLt
  funext a
  apply Fin.ext
  match a with
  | ⟨0, _⟩ => show 0 + 1 * (z 0 : Fin 1024).val = (z 0 : Fin 1024).val; omega
  | ⟨1, _⟩ => show o + 1 * (z 1 : Fin 128).val = (o + (z 1 : Fin 128).val) % 2048; omega

theorem rdR (v : View sig .tc .vmem S1x2048 .f32) (X : BufTy.Contents (Elt F) v.ty) (off : Fin 2 → ℕ) (o : ℕ) (hoff : off = ![0, o])
    (inb : ∀ a, off a + S1x128.size a ≤ S1x2048.size a) :
    View.readAt (Elt F) v (Rect.unit (s := S1x2048) off S1x128.size inb).toLoadRect X = blkR (v.read (Elt F) X) o := by
  subst hoff
  funext z
  refine congrArg (v.read (Elt F) X) ?_
  have h : o + 128 ≤ 2048 := inb 1
  have h1 : (z 1 : Fin 128).val < 128 := (z 1).isLt
  funext a
  apply Fin.ext
  match a with
  | ⟨0, _⟩ => show 0 + 1 * (z 0 : Fin 1).val = (z 0 : Fin 1).val; omega
  | ⟨1, _⟩ => show o + 1 * (z 1 : Fin 128).val = (o + (z 1 : Fin 128).val) % 2048; omega

theorem off1_eq : ∀ k : Fin k0_t1_loop.trips, k0_off1 k = ![0, 128 * (k.val + 1)] := by decide +kernel
theorem off2_eq : ∀ k : Fin k0_t1_loop.trips, k0_off2 k = ![0, 1024 + 128 * (k.val + 1)] := by decide +kernel
theorem off3_eq : ∀ k : Fin k0_t1_loop.trips, k0_off3 k = ![0, 128 * (k.val + 1)] := by decide +kernel
theorem off4_eq : ∀ k : Fin k0_t1_loop.trips, k0_off4 k = ![0, 1024 + 128 * (k.val + 1)] := by decide +kernel
theorem off5_eq : ∀ k : Fin k0_t1_loop.trips, k0_off5 k = ![(k.val + 1) % 2, 0, 0] := by decide +kernel
theorem off6_eq : ∀ k : Fin k0_t1_loop.trips, k0_off6 k = ![k.val % 2, 0, 0] := by decide +kernel
theorem off7_eq : ∀ k : Fin k0_t1_loop.trips, k0_off7 k = ![256 * 0, 128 * k.val] := by decide +kernel
theorem off8_eq : ∀ k : Fin k0_t1_loop.trips, k0_off8 k = ![256 * 1, 128 * k.val] := by decide +kernel
theorem off9_eq : ∀ k : Fin k0_t1_loop.trips, k0_off9 k = ![256 * 2, 128 * k.val] := by decide +kernel
theorem off10_eq : ∀ k : Fin k0_t1_loop.trips, k0_off10 k = ![256 * 3, 128 * k.val] := by decide +kernel
theorem off11_eq : ∀ k : Fin k0_t1_loop.trips, k0_off11 k = ![256 * 4, 128 * k.val] := by decide +kernel
theorem off12_eq : ∀ k : Fin k0_t1_loop.trips, k0_off12 k = ![256 * 5, 128 * k.val] := by decide +kernel
theorem off13_eq : ∀ k : Fin k0_t1_loop.trips, k0_off13 k = ![256 * 6, 128 * k.val] := by decide +kernel
theorem off14_eq : ∀ k : Fin k0_t1_loop.trips, k0_off14 k = ![256 * 7, 128 * k.val] := by decide +kernel

/-- Rows `R …` of a finished slot, `R` the first row of batch half `j`, are the rows `256 j …` of the gated product. -/
theorem export_eq (x0 : Vec F S2048x1024 .fp8e4m3) (x1 : Vec F S1024x2048 .fp8e4m3) (sc b : Vec F S1x2048 .f32) {s c : ℕ}
    {f : S2x2336x128.Idx → Elt F .f32} (h : Done (H x0 x1 sc b c) s 16 f)
    (off : Fin 3 → ℕ) (p1 : ∀ a, off a + S1x2336x128.size a ≤ S2x2336x128.size a)
    (p2 : ∀ a, (Rect.unit (s := S2x2336x128) off S1x2336x128.size p1).stride a = 1) (R j : ℕ) (hj : j < 8) (hR : R = 292 * j + 16)
    (inb : ∀ a, (![R, 0] : Fin 2 → ℕ) a + (![256, 128] : Fin 2 → ℕ) a ≤ S2336x128.size a)
    (hs : s < 2) (hoff : off = ![s, 0, 0]) (off' : Fin 2 → ℕ) (hoff' : off' = ![256 * j, 128 * c])
    (inb' : ∀ a, off' a + S256x128.size a ≤ S2048x1024.size a) (z : S256x128.Idx) :
    View.readAt (Elt F) (((Memref.whole cc0_scratch0 : Memref sig .tc .vmem S2x2336x128 .f32).slice (Rect.unit (s := S2x2336x128) off S1x2336x128.size p1) p2).squeeze S2336x128
      squeezes_S1x2336x128_S2336x128).view (Rect.unit (s := S2336x128) ![R, 0] ![256, 128] inb).toLoadRect f z
      = hAt x0 x1 sc b ((Rect.unit (s := S2048x1024) off' S256x128.size inb').emb z) := by
  subst hoff'
  have h0 : (z 0 : Fin 256).val < 256 := (z 0).isLt
  have h1 : (z 1 : Fin 128).val < 128 := (z 1).isLt
  have hz : z = ix2 (z 0 : Fin 256) (z 1 : Fin 128) := eq_ix2 z
  have hlt : R + (z 0 : Fin 256).val < 2336 := by omega
  have hn := slot_read (F := F) off p1 p2 R 256 inb s hs hoff f (z 0) (z 1) hlt
  have hd := h (2 * j + (z 0 : Fin 256).val / 128) (by omega) ⟨(z 0 : Fin 256).val % 128, Nat.mod_lt _ (by decide)⟩ (z 1) ⟨s, hs⟩
    ⟨R + (z 0 : Fin 256).val, hlt⟩ rfl (by
      show R + (z 0 : Fin 256).val = row (2 * j + (z 0 : Fin 256).val / 128) + (z 0 : Fin 256).val % 128
      unfold row; omega)
  have e1 : (128 * c + 1 * (z 1 : Fin 128).val) / 128 = c := by omega
  have e0 : (256 * j + 1 * (z 0 : Fin 256).val) / 128 = 2 * j + (z 0 : Fin 256).val / 128 := by omega
  have e2 : (⟨(256 * j + 1 * (z 0 : Fin 256).val) % 128, Nat.mod_lt _ (by decide)⟩ : Fin 128) = ⟨(z 0 : Fin 256).val % 128, Nat.mod_lt _ (by decide)⟩ :=
    Fin.ext (by show (256 * j + 1 * (z 0 : Fin 256).val) % 128 = (z 0 : Fin 256).val % 128; omega)
  have e3 : (⟨(128 * c + 1 * (z 1 : Fin 128).val) % 128, Nat.mod_lt _ (by decide)⟩ : Fin 128) = z 1 :=
    Fin.ext (by show (128 * c + 1 * (z 1 : Fin 128).val) % 128 = (z 1 : Fin 128).val; omega)
  rw [hz]
  refine (hn.trans hd).trans ?_
  show _ = H x0 x1 sc b ((128 * c + 1 * (z 1 : Fin 128).val) / 128) ((256 * j + 1 * (z 0 : Fin 256).val) / 128)
    (ix2 ⟨(256 * j + 1 * (z 0 : Fin 256).val) % 128, _⟩ ⟨(128 * c + 1 * (z 1 : Fin 128).val) % 128, _⟩)
  rw [e0, e1, e2, e3]

end Cert.KernelMmIdeal.Mm

end
-- ==== Proof.MmLoop.lean ====
/- What the loop of the product kernel leaves: one slot holds the next column of the gated product, the output the columns before. -/
module

public import proofs.«01_k».proof.Proof.MmSlots

@[expose] public section

set_option maxRecDepth 16384

noncomputable section

namespace Cert.KernelMmIdeal.Mm

open Idealize.ShloMosaic Idealize.ShloMosaic.TcCoe Idealize.ShloMosaic.Tactic
open Idealize.SL.Sem
open Cert.KernelMmIdeal Cert.KernelMmIdeal.Gen

variable {F : FTy → Type} [FloatOps F]

section
variable (arg0 : Memref sig .tc .vmem S2048x1024 .fp8e4m3) (arg1 : Memref sig .tc .vmem S1024x2048 .fp8e4m3)
  (arg3 arg7 : Memref sig .tc .vmem S1x2048 .f32) (X0 : BufTy.Contents (Elt F) arg0.view.ty) (X1 : BufTy.Contents (Elt F) arg1.view.ty)
  (X3 : BufTy.Contents (Elt F) arg3.view.ty) (X7 : BufTy.Contents (Elt F) arg7.view.ty)

/-- The gated product of what the buffers hold. -/
abbrev HX (c i : ℕ) : FVec F S128x128 .f32 :=
  H (arg0.view.read (Elt F) X0) (arg1.view.read (Elt F) X1) (arg7.view.read (Elt F) X7) (arg3.view.read (Elt F) X3) c i

variable (k : Fin k0_t1_loop.trips)

theorem trip_pay (i : ℕ) (inb : ∀ a, (![128 * i, 0] : Fin 2 → ℕ) a + S128x1024.size a ≤ S2048x1024.size a) :
    k0_pay6 (trip.sl.r arg1 X1 k) (trip.sl.r_1 arg7 X7 k) (trip.sl.r_2 arg7 X7 k) (trip.sl.r_3 arg3 X3 k) (trip.sl.r_4 arg3 X3 k)
      (View.readAt (Elt F) arg0.view (Rect.unit (s := S2048x1024) ![128 * i, 0] S128x1024.size inb).toLoadRect X0)
      = HX arg0 arg1 arg3 arg7 X0 X1 X3 X7 (k.val + 1) i := by
  unfold trip.sl.r trip.sl.r_1 trip.sl.r_2 trip.sl.r_3 trip.sl.r_4
  rw [rdX _ _ _ i rfl, rdW _ _ _ _ (off1_eq k), rdW _ _ _ _ (off2_eq k), rdR _ _ _ _ (off3_eq k), rdR _ _ _ _ (off4_eq k),
    rdR _ _ _ _ (off3_eq k), rdR _ _ _ _ (off4_eq k)]
  rfl

variable (f6 : BufTy.Contents (Elt F) cc0_scratch0.ty)

theorem trip_w1 : Done (HX arg0 arg1 arg3 arg7 X0 X1 X3 X7 (k.val + 1)) ((k.val + 1) % 2) 1 (trip.sl.H6_w1 arg0 arg1 arg3 arg7 X0 X1 X3 X7 f6 k) := by
  unfold trip.sl.H6_w1
  exact Done.data (n := 0) (fun i hi => absurd hi (Nat.not_lt_zero i)) (Nat.mod_lt _ (by decide)) (off5_eq k) rfl (trip_pay arg0 arg1 arg3 arg7 X0 X1 X3 X7 k 0 inb_S2048x1024_S128x1024_0_0)
theorem trip_w2 : Done (HX arg0 arg1 arg3 arg7 X0 X1 X3 X7 (k.val + 1)) ((k.val + 1) % 2) 2 (trip.sl.H6_w2 arg0 arg1 arg3 arg7 X0 X1 X3 X7 f6 k) := by
  unfold trip.sl.H6_w2
  exact Done.data (n := 1) (trip_w1 arg0 arg1 arg3 arg7 X0 X1 X3 X7 k f6) (Nat.mod_lt _ (by decide)) (off5_eq k) rfl (trip_pay arg0 arg1 arg3 arg7 X0 X1 X3 X7 k 1 inb_S2048x1024_S128x1024_128_0)
theorem trip_w3 : Done (HX arg0 arg1 arg3 arg7 X0 X1 X3 X7 (k.val + 1)) ((k.val + 1) % 2) 3 (trip.sl.H6_w3 arg0 arg1 arg3 arg7 X0 X1 X3 X7 f6 k) := by
  unfold trip.sl.H6_w3
  exact Done.data (n := 2) (trip_w2 arg0 arg1 arg3 arg7 X0 X1 X3 X7 k f6) (Nat.mod_lt _ (by decide)) (off5_eq k) rfl (trip_pay arg0 arg1 arg3 arg7 X0 X1 X3 X7 k 2 inb_S2048x1024_S128x1024_256_0)
theorem trip_w4 : Done (HX arg0 arg1 arg3 arg7 X0 X1 X3 X7 (k.val + 1)) ((k.val + 1) % 2) 4 (trip.sl.H6_w4 arg0 arg1 arg3 arg7 X0 X1 X3 X7 f6 k) := by
  unfold trip.sl.H6_w4
  exact Done.data (n := 3) (trip_w3 arg0 arg1 arg3 arg7 X0 X1 X3 X7 k f6) (Nat.mod_lt _ (by decide)) (off5_eq k) rfl (trip_pay arg0 arg1 arg3 arg7 X0 X1 X3 X7 k 3 inb_S2048x1024_S128x1024_384_0)
theorem trip_w5 : Done (HX arg0 arg1 arg3 arg7 X0 X1 X3 X7 (k.val + 1)) ((k.val + 1) % 2) 5 (trip.sl.H6_w5 arg0 arg1 arg3 arg7 X0 X1 X3 X7 f6 k) := by
  unfold trip.sl.H6_w5
  exact Done.data (n := 4) (trip_w4 arg0 arg1 arg3 arg7 X0 X1 X3 X7 k f6) (Nat.mod_lt _ (by decide)) (off5_eq k) rfl (trip_pay arg0 arg1 arg3 arg7 X0 X1 X3 X7 k 4 inb_S2048x1024_S128x1024_512_0)
theorem trip_w6 : Done (HX arg0 arg1 arg3 arg7 X0 X1 X3 X7 (k.val + 1)) ((k.val + 1) % 2) 6 (trip.sl.H6_w6 arg0 arg1 arg3 arg7 X0 X1 X3 X7 f6 k) := by
  unfold trip.sl.H6_w6
  exact Done.data (n := 5) (trip_w5 arg0 arg1 arg3 arg7 X0 X1 X3 X7 k f6) (Nat.mod_lt _ (by decide)) (off5_eq k) rfl (trip_pay arg0 arg1 arg3 arg7 X0 X1 X3 X7 k 5 inb_S2048x1024_S128x1024_640_0)
theorem trip_w7 : Done (HX arg0 arg1 arg3 arg7 X0 X1 X3 X7 (k.val + 1)) ((k.val + 1) % 2) 7 (trip.sl.H6_w7 arg0 arg1 arg3 arg7 X0 X1 X3 X7 f6 k) := by
  unfold trip.sl.H6_w7
  exact Done.data (n := 6) (trip_w6 arg0 arg1 arg3 arg7 X0 X1 X3 X7 k f6) (Nat.mod_lt _ (by decide)) (off5_eq k) rfl (trip_pay arg0 arg1 arg3 arg7 X0 X1 X3 X7 k 6 inb_S2048x1024_S128x1024_768_0)
theorem trip_w8 : Done (HX arg0 arg1 arg3 arg7 X0 X1 X3 X7 (k.val + 1)) ((k.val + 1) % 2) 8 (trip.sl.H6_w8 arg0 arg1 arg3 arg7 X0 X1 X3 X7 f6 k) := by
  unfold trip.sl.H6_w8
  exact Done.data (n := 7) (trip_w7 arg0 arg1 arg3 arg7 X0 X1 X3 X7 k f6) (Nat.mod_lt _ (by decide)) (off5_eq k) rfl (trip_pay arg0 arg1 arg3 arg7 X0 X1 X3 X7 k 7 inb_S2048x1024_S128x1024_896_0)
theorem trip_w9 : Done (HX arg0 arg1 arg3 arg7 X0 X1 X3 X7 (k.val + 1)) ((k.val + 1) % 2) 9 (trip.sl.H6_w9 arg0 arg1 arg3 arg7 X0 X1 X3 X7 f6 k) := by
  unfold trip.sl.H6_w9
  exact Done.data (n := 8) (trip_w8 arg0 arg1 arg3 arg7 X0 X1 X3 X7 k f6) (Nat.mod_lt _ (by decide)) (off5_eq k) rfl (trip_pay arg0 arg1 arg3 arg7 X0 X1 X3 X7 k 8 inb_S2048x1024_S128x1024_1024_0)
theorem trip_w10 : Done (HX arg0 arg1 arg3 arg7 X0 X1 X3 X7 (k.val + 1)) ((k.val + 1) % 2) 10 (trip.sl.H6_w10 arg0 arg1 arg3 arg7 X0 X1 X3 X7 f6 k) := by
  unfold trip.sl.H6_w10
  exact Done.data (n := 9) (trip_w9 arg0 arg1 arg3 arg7 X0 X1 X3 X7 k f6) (Nat.mod_lt _ (by decide)) (off5_eq k) rfl (trip_pay arg0 arg1 arg3 arg7 X0 X1 X3 X7 k 9 inb_S2048x1024_S128x1024_1152_0)
theorem trip_w11 : Done (HX arg0 arg1 arg3 arg7 X0 X1 X3 X7 (k.val + 1)) ((k.val + 1) % 2) 11 (trip.sl.H6_w11 arg0 arg1 arg3 arg7 X0 X1 X3 X7 f6 k) := by
  unfold trip.sl.H6_w11
  exact Done.data (n := 10) (trip_w10 arg0 arg1 arg3 arg7 X0 X1 X3 X7 k f6) (Nat.mod_lt _ (by decide)) (off5_eq k) rfl (trip_pay arg0 arg1 arg3 arg7 X0 X1 X3 X7 k 10 inb_S2048x1024_S128x1024_1280_0)
theorem trip_w12 : Done (HX arg0 arg1 arg3 arg7 X0 X1 X3 X7 (k.val + 1)) ((k.val + 1) % 2) 12 (trip.sl.H6_w12 arg0 arg1 arg3 arg7 X0 X1 X3 X7 f6 k) := by
  unfold trip.sl.H6_w12
  exact Done.data (n := 11) (trip_w11 arg0 arg1 arg3 arg7 X0 X1 X3 X7 k f6) (Nat.mod_lt _ (by decide)) (off5_eq k) rfl (trip_pay arg0 arg1 arg3 arg7 X0 X1 X3 X7 k 11 inb_S2048x1024_S128x1024_1408_0)
theorem trip_w13 : Done (HX arg0 arg1 arg3 arg7 X0 X1 X3 X7 (k.val + 1)) ((k.val + 1) % 2) 13 (trip.sl.H6_w13 arg0 arg1 arg3 arg7 X0 X1 X3 X7 f6 k) := by
  unfold trip.sl.H6_w13
  exact Done.data (n := 12) (trip_w12 arg0 arg1 arg3 arg7 X0 X1 X3 X7 k f6) (Nat.mod_lt _ (by decide)) (off5_eq k) rfl (trip_pay arg0 arg1 arg3 arg7 X0 X1 X3 X7 k 12 inb_S2048x1024_S128x1024_1536_0)
theorem trip_w14 : Done (HX arg0 arg1 arg3 arg7 X0 X1 X3 X7 (k.val + 1)) ((k.val + 1) % 2) 14 (trip.sl.H6_w14 arg0 arg1 arg3 arg7 X0 X1 X3 X7 f6 k) := by
  unfold trip.sl.H6_w14
  exact Done.data (n := 13) (trip_w13 arg0 arg1 arg3 arg7 X0 X1 X3 X7 k f6) (Nat.mod_lt _ (by decide)) (off5_eq k) rfl (trip_pay arg0 arg1 arg3 arg7 X0 X1 X3 X7 k 13 inb_S2048x1024_S128x1024_1664_0)
theorem trip_w15 : Done (HX arg0 arg1 arg3 arg7 X0 X1 X3 X7 (k.val + 1)) ((k.val + 1) % 2) 15 (trip.sl.H6_w15 arg0 arg1 arg3 arg7 X0 X1 X3 X7 f6 k) := by
  unfold trip.sl.H6_w15
  exact Done.data (n := 14) (trip_w14 arg0 arg1 arg3 arg7 X0 X1 X3 X7 k f6) (Nat.mod_lt _ (by decide)) (off5_eq k) rfl (trip_pay arg0 arg1 arg3 arg7 X0 X1 X3 X7 k 14 inb_S2048x1024_S128x1024_1792_0)
theorem trip_w16 : Done (HX arg0 arg1 arg3 arg7 X0 X1 X3 X7 (k.val + 1)) ((k.val + 1) % 2) 16 (trip.sl.H6_w16 arg0 arg1 arg3 arg7 X0 X1 X3 X7 f6 k) := by
  unfold trip.sl.H6_w16
  exact Done.data (n := 15) (trip_w15 arg0 arg1 arg3 arg7 X0 X1 X3 X7 k f6) (Nat.mod_lt _ (by decide)) (off5_eq k) rfl (trip_pay arg0 arg1 arg3 arg7 X0 X1 X3 X7 k 15 inb_S2048x1024_S128x1024_1920_0)
theorem trip_w17 : Done (HX arg0 arg1 arg3 arg7 X0 X1 X3 X7 (k.val + 1)) ((k.val + 1) % 2) 16 (trip.sl.H6_w17 arg0 arg1 arg3 arg7 X0 X1 X3 X7 f6 k) := by
  unfold trip.sl.H6_w17
  exact Done.halo (trip_w16 arg0 arg1 arg3 arg7 X0 X1 X3 X7 k f6) (Nat.mod_lt _ (by decide)) (off5_eq k) (by decide)
theorem trip_w18 : Done (HX arg0 arg1 arg3 arg7 X0 X1 X3 X7 (k.val + 1)) ((k.val + 1) % 2) 16 (trip.sl.H6_w18 arg0 arg1 arg3 arg7 X0 X1 X3 X7 f6 k) := by
  unfold trip.sl.H6_w18
  exact Done.halo (trip_w17 arg0 arg1 arg3 arg7 X0 X1 X3 X7 k f6) (Nat.mod_lt _ (by decide)) (off5_eq k) (by decide)
theorem trip_w19 : Done (HX arg0 arg1 arg3 arg7 X0 X1 X3 X7 (k.val + 1)) ((k.val + 1) % 2) 16 (trip.sl.H6_w19 arg0 arg1 arg3 arg7 X0 X1 X3 X7 f6 k) := by
  unfold trip.sl.H6_w19
  exact Done.halo (trip_w18 arg0 arg1 arg3 arg7 X0 X1 X3 X7 k f6) (Nat.mod_lt _ (by decide)) (off5_eq k) (by decide)
theorem trip_w20 : Done (HX arg0 arg1 arg3 arg7 X0 X1 X3 X7 (k.val + 1)) ((k.val + 1) % 2) 16 (trip.sl.H6_w20 arg0 arg1 arg3 arg7 X0 X1 X3 X7 f6 k) := by
  unfold trip.sl.H6_w20
  exact Done.halo (trip_w19 arg0 arg1 arg3 arg7 X0 X1 X3 X7 k f6) (Nat.mod_lt _ (by decide)) (off5_eq k) (by decide)
theorem trip_w21 : Done (HX arg0 arg1 arg3 arg7 X0 X1 X3 X7 (k.val + 1)) ((k.val + 1) % 2) 16 (trip.sl.H6_w21 arg0 arg1 arg3 arg7 X0 X1 X3 X7 f6 k) := by
  unfold trip.sl.H6_w21
  exact Done.halo (trip_w20 arg0 arg1 arg3 arg7 X0 X1 X3 X7 k f6) (Nat.mod_lt _ (by decide)) (off5_eq k) (by decide)
theorem trip_w22 : Done (HX arg0 arg1 arg3 arg7 X0 X1 X3 X7 (k.val + 1)) ((k.val + 1) % 2) 16 (trip.sl.H6_w22 arg0 arg1 arg3 arg7 X0 X1 X3 X7 f6 k) := by
  unfold trip.sl.H6_w22
  exact Done.halo (trip_w21 arg0 arg1 arg3 arg7 X0 X1 X3 X7 k f6) (Nat.mod_lt _ (by decide)) (off5_eq k) (by decide)
theorem trip_w23 : Done (HX arg0 arg1 arg3 arg7 X0 X1 X3 X7 (k.val + 1)) ((k.val + 1) % 2) 16 (trip.sl.H6_w23 arg0 arg1 arg3 arg7 X0 X1 X3 X7 f6 k) := by
  unfold trip.sl.H6_w23
  exact Done.halo (trip_w22 arg0 arg1 arg3 arg7 X0 X1 X3 X7 k f6) (Nat.mod_lt _ (by decide)) (off5_eq k) (by decide)
theorem trip_w24 : Done (HX arg0 arg1 arg3 arg7 X0 X1 X3 X7 (k.val + 1)) ((k.val + 1) % 2) 16 (trip.sl.H6_w24 arg0 arg1 arg3 arg7 X0 X1 X3 X7 f6 k) := by
  unfold trip.sl.H6_w24
  exact Done.halo (trip_w23 arg0 arg1 arg3 arg7 X0 X1 X3 X7 k f6) (Nat.mod_lt _ (by decide)) (off5_eq k) (by decide)
/-- A trip leaves the other slot's column. -/
theorem trip_keep {G : ℕ → FVec F S128x128 .f32} (h : Done G (k.val % 2) 16 f6) :
    Done G (k.val % 2) 16 (trip.sl.H6_w24 arg0 arg1 arg3 arg7 X0 X1 X3 X7 f6 k) := by
  have hne : k.val % 2 ≠ (k.val + 1) % 2 := by omega
  have hlt : (k.val + 1) % 2 < 2 := Nat.mod_lt _ (by decide)
  have ho := off5_eq k
  have h1 : Done G (k.val % 2) 16 (trip.sl.H6_w1 arg0 arg1 arg3 arg7 X0 X1 X3 X7 f6 k) := by
    unfold trip.sl.H6_w1; exact Done.other h _ hlt hne ho
  have h2 : Done G (k.val % 2) 16 (trip.sl.H6_w2 arg0 arg1 arg3 arg7 X0 X1 X3 X7 f6 k) := by
    unfold trip.sl.H6_w2; exact Done.other h1 _ hlt hne ho
  have h3 : Done G (k.val % 2) 16 (trip.sl.H6_w3 arg0 arg1 arg3 arg7 X0 X1 X3 X7 f6 k) := by
    unfold trip.sl.H6_w3; exact Done.other h2 _ hlt hne ho
  have h4 : Done G (k.val % 2) 16 (trip.sl.H6_w4 arg0 arg1 arg3 arg7 X0 X1 X3 X7 f6 k) := by
    unfold trip.sl.H6_w4; exact Done.other h3 _ hlt hne ho
  have h5 : Done G (k.val % 2) 16 (trip.sl.H6_w5 arg0 arg1 arg3 arg7 X0 X1 X3 X7 f6 k) := by
    unfold trip.sl.H6_w5; exact Done.other h4 _ hlt hne ho
  have h6 : Done G (k.val % 2) 16 (trip.sl.H6_w6 arg0 arg1 arg3 arg7 X0 X1 X3 X7 f6 k) := by
    unfold trip.sl.H6_w6; exact Done.other h5 _ hlt hne ho
  have h7 : Done G (k.val % 2) 16 (trip.sl.H6_w7 arg0 arg1 arg3 arg7 X0 X1 X3 X7 f6 k) := by
    unfold trip.sl.H6_w7; exact Done.other h6 _ hlt hne ho
  have h8 : Done G (k.val % 2) 16 (trip.sl.H6_w8 arg0 arg1 arg3 arg7 X0 X1 X3 X7 f6 k) := by
    unfold trip.sl.H6_w8; exact Done.other h7 _ hlt hne ho
  have h9 : Done G (k.val % 2) 16 (trip.sl.H6_w9 arg0 arg1 arg3 arg7 X0 X1 X3 X7 f6 k) := by
    unfold trip.sl.H6_w9; exact Done.other h8 _ hlt hne ho
  have h10 : Done G (k.val % 2) 16 (trip.sl.H6_w10 arg0 arg1 arg3 arg7 X0 X1 X3 X7 f6 k) := by
    unfold trip.sl.H6_w10; exact Done.other h9 _ hlt hne ho
  have h11 : Done G (k.val % 2) 16 (trip.sl.H6_w11 arg0 arg1 arg3 arg7 X0 X1 X3 X7 f6 k) := by
    unfold trip.sl.H6_w11; exact Done.other h10 _ hlt hne ho
  have h12 : Done G (k.val % 2) 16 (trip.sl.H6_w12 arg0 arg1 arg3 arg7 X0 X1 X3 X7 f6 k) := by
    unfold trip.sl.H6_w12; exact Done.other h11 _ hlt hne ho
  have h13 : Done G (k.val % 2) 16 (trip.sl.H6_w13 arg0 arg1 arg3 arg7 X0 X1 X3 X7 f6 k) := by
    unfold trip.sl.H6_w13; exact Done.other h12 _ hlt hne ho
  have h14 : Done G (k.val % 2) 16 (trip.sl.H6_w14 arg0 arg1 arg3 arg7 X0 X1 X3 X7 f6 k) := by
    unfold trip.sl.H6_w14; exact Done.other h13 _ hlt hne ho
  have h15 : Done G (k.val % 2) 16 (trip.sl.H6_w15 arg0 arg1 arg3 arg7 X0 X1 X3 X7 f6 k) := by
    unfold trip.sl.H6_w15; exact Done.other h14 _ hlt hne ho
  have h16 : Done G (k.val % 2) 16 (trip.sl.H6_w16 arg0 arg1 arg3 arg7 X0 X1 X3 X7 f6 k) := by
    unfold trip.sl.H6_w16; exact Done.other h15 _ hlt hne ho
  have h17 : Done G (k.val % 2) 16 (trip.sl.H6_w17 arg0 arg1 arg3 arg7 X0 X1 X3 X7 f6 k) := by
    unfold trip.sl.H6_w17; exact Done.other h16 _ hlt hne ho
  have h18 : Done G (k.val % 2) 16 (trip.sl.H6_w18 arg0 arg1 arg3 arg7 X0 X1 X3 X7 f6 k) := by
    unfold trip.sl.H6_w18; exact Done.other h17 _ hlt hne ho
  have h19 : Done G (k.val % 2) 16 (trip.sl.H6_w19 arg0 arg1 arg3 arg7 X0 X1 X3 X7 f6 k) := by
    unfold trip.sl.H6_w19; exact Done.other h18 _ hlt hne ho
  have h20 : Done G (k.val % 2) 16 (trip.sl.H6_w20 arg0 arg1 arg3 arg7 X0 X1 X3 X7 f6 k) := by
    unfold trip.sl.H6_w20; exact Done.other h19 _ hlt hne ho
  have h21 : Done G (k.val % 2) 16 (trip.sl.H6_w21 arg0 arg1 arg3 arg7 X0 X1 X3 X7 f6 k) := by
    unfold trip.sl.H6_w21; exact Done.other h20 _ hlt hne ho
  have h22 : Done G (k.val % 2) 16 (trip.sl.H6_w22 arg0 arg1 arg3 arg7 X0 X1 X3 X7 f6 k) := by
    unfold trip.sl.H6_w22; exact Done.other h21 _ hlt hne ho
  have h23 : Done G (k.val % 2) 16 (trip.sl.H6_w23 arg0 arg1 arg3 arg7 X0 X1 X3 X7 f6 k) := by
    unfold trip.sl.H6_w23; exact Done.other h22 _ hlt hne ho
  have h24 : Done G (k.val % 2) 16 (trip.sl.H6_w24 arg0 arg1 arg3 arg7 X0 X1 X3 X7 f6 k) := by
    unfold trip.sl.H6_w24; exact Done.other h23 _ hlt hne ho
  exact h24

end

section
variable (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
  (X0 : BufTy.Contents (Elt F) arg0.view.ty) (X1 : BufTy.Contents (Elt F) arg1.view.ty)
  (X3 : BufTy.Contents (Elt F) arg3.view.ty) (X7 : BufTy.Contents (Elt F) arg7.view.ty)

/-- One trip, from a slot that holds column `k`: the other slot comes to hold column `k + 1`, and column `k` goes to the output. -/
theorem trip_spec (f6 : BufTy.Contents (Elt F) cc0_scratch0.ty) (k : Fin k0_t1_loop.trips)
    (h : Done (HX arg0 arg1 arg3 arg7 X0 X1 X3 X7 k.val) (k.val % 2) 16 f6) :
    Done (HX arg0 arg1 arg3 arg7 X0 X1 X3 X7 (k.val + 1)) ((k.val + 1) % 2) 16 (trip (F := F) c arg0 harg0 arg1 harg1 arg2 harg2 arg3 harg3 arg4 harg4 arg5 harg5 arg7 harg7 X0 X1 X3 X7 f6 k).1.1
      ∧ ∀ p ∈ (trip (F := F) c arg0 harg0 arg1 harg1 arg2 harg2 arg3 harg3 arg4 harg4 arg5 harg5 arg7 harg7 X0 X1 X3 X7 f6 k).1.2, ∀ z : p.1.shape.Idx, p.2 z = (hAt (arg0.view.read (Elt F) X0) (arg1.view.read (Elt F) X1) (arg7.view.read (Elt F) X7) (arg3.view.read (Elt F) X3)) (p.1.emb z) := by
  have hk := trip_keep arg0 arg1 arg3 arg7 X0 X1 X3 X7 k f6 h
  have hlt : k.val % 2 < 2 := Nat.mod_lt _ (by decide)
  unfold trip
  dsimp only
  refine ⟨trip_w24 arg0 arg1 arg3 arg7 X0 X1 X3 X7 k f6, ?_⟩
  intro p hp
  simp only [List.mem_cons, List.not_mem_nil, or_false] at hp
  rcases hp with rfl | rfl | rfl | rfl | rfl | rfl | rfl | rfl <;> intro z
  · unfold trip.sl.v979; dsimp only at z ⊢; exact export_eq _ _ _ _ hk _ _ (fun _ => rfl) 2060 7 (by decide) rfl _ hlt (off6_eq k) _ (off14_eq k) _ z
  · unfold trip.sl.v974; dsimp only at z ⊢; exact export_eq _ _ _ _ hk _ _ (fun _ => rfl) 1768 6 (by decide) rfl _ hlt (off6_eq k) _ (off13_eq k) _ z
  · unfold trip.sl.v969; dsimp only at z ⊢; exact export_eq _ _ _ _ hk _ _ (fun _ => rfl) 1476 5 (by decide) rfl _ hlt (off6_eq k) _ (off12_eq k) _ z
  · unfold trip.sl.v964; dsimp only at z ⊢; exact export_eq _ _ _ _ hk _ _ (fun _ => rfl) 1184 4 (by decide) rfl _ hlt (off6_eq k) _ (off11_eq k) _ z
  · unfold trip.sl.v959; dsimp only at z ⊢; exact export_eq _ _ _ _ hk _ _ (fun _ => rfl) 892 3 (by decide) rfl _ hlt (off6_eq k) _ (off10_eq k) _ z
  · unfold trip.sl.v954; dsimp only at z ⊢; exact export_eq _ _ _ _ hk _ _ (fun _ => rfl) 600 2 (by decide) rfl _ hlt (off6_eq k) _ (off9_eq k) _ z
  · unfold trip.sl.v949; dsimp only at z ⊢; exact export_eq _ _ _ _ hk _ _ (fun _ => rfl) 308 1 (by decide) rfl _ hlt (off6_eq k) _ (off8_eq k) _ z
  · unfold trip.sl.v944; dsimp only at z ⊢; exact export_eq _ _ _ _ hk _ _ (fun _ => rfl) 16 0 (by decide) rfl _ hlt (off6_eq k) _ (off7_eq k) _ z

/-- Before trip `k` one slot holds column `k`, and everything written to the output is the gated product where it is written. -/
theorem st_spec (G6 : BufTy.Contents (Elt F) cc0_scratch0.ty) (h0 : Done (HX arg0 arg1 arg3 arg7 X0 X1 X3 X7 0) 0 16 G6) : ∀ k : ℕ, k ≤ k0_t1_loop.trips →
    Done (HX arg0 arg1 arg3 arg7 X0 X1 X3 X7 k) (k % 2) 16 (st (F := F) c arg0 harg0 arg1 harg1 arg2 harg2 arg3 harg3 arg4 harg4 arg5 harg5 arg7 harg7 X0 X1 X3 X7 G6 k).1
      ∧ ∀ p ∈ (st (F := F) c arg0 harg0 arg1 harg1 arg2 harg2 arg3 harg3 arg4 harg4 arg5 harg5 arg7 harg7 X0 X1 X3 X7 G6 k).2, ∀ z : p.1.shape.Idx, p.2 z = (hAt (arg0.view.read (Elt F) X0) (arg1.view.read (Elt F) X1) (arg7.view.read (Elt F) X7) (arg3.view.read (Elt F) X3)) (p.1.emb z) := by
  intro k
  induction k with
  | zero => intro _; rw [st.eq_1]; exact ⟨h0, fun p hp => absurd hp List.not_mem_nil⟩
  | succ k ih =>
    intro hk
    have ih' := ih (Nat.le_of_succ_le hk)
    have hs := st_succ (F := F) c arg0 harg0 arg1 harg1 arg2 harg2 arg3 harg3 arg4 harg4 arg5 harg5 arg7 harg7 X0 X1 X3 X7 G6 ⟨k, hk⟩
    dsimp only at hs
    have ht := trip_spec (F := F) c arg0 harg0 arg1 harg1 arg2 harg2 arg3 harg3 arg4 harg4 arg5 harg5 arg7 harg7 X0 X1 X3 X7 (st (F := F) c arg0 harg0 arg1 harg1 arg2 harg2 arg3 harg3 arg4 harg4 arg5 harg5 arg7 harg7 X0 X1 X3 X7 G6 k).1 ⟨k, hk⟩ ih'.1
    rw [hs]
    refine ⟨ht.1, fun p hp => ?_⟩
    rcases List.mem_append.mp hp with hp | hp
    · exact ht.2 p hp
    · exact ih'.2 p hp

end

end Cert.KernelMmIdeal.Mm

end
-- ==== Proof.MmBody.lean ====
/- What the whole body of the product kernel writes: the gated product. -/
module

public import proofs.«01_k».proof.Proof.MmLoop

@[expose] public section

set_option maxRecDepth 16384

noncomputable section

namespace Cert.KernelMmIdeal.Mm

open Idealize.ShloMosaic Idealize.ShloMosaic.TcCoe Idealize.ShloMosaic.Tactic
open Idealize.SL.Sem
open Cert.KernelMmIdeal Cert.KernelMmIdeal.Gen

variable {F : FTy → Type} [FloatOps F]

theorem hz : (![0, 0] : Fin 2 → Nat) = fun _ => 0 := funext fun a => by fin_cases a <;> rfl

/-- The row of scales the body stores: every column's weight scale times the one scale. -/
def scRow (x2 : Vec F S1x2048 .f32) (x4 : Vec F S1x1 .f32) : Vec F S1x2048 .f32 := k0_pay41 (x4 (ix2 0 0)) x2

section
variable (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole) (arg7 : Memref sig .tc .vmem S1x2048 .f32) (harg7 : arg7.IsWhole)
    (x0 : Vec F S2048x1024 .fp8e4m3) (x1 : Vec F S1024x2048 .fp8e4m3) (x2 : Vec F S1x2048 .f32) (x3 : Vec F S1x2048 .f32) (x4 : Vec F S1x1 .f32)
    (g6 : BufTy.Contents (Elt F) cc0_scratch0.ty)

theorem scale_read : arg7.view.read (Elt F) (arg7.view.writes (Elt F) arg7.view.junk (run.sl.H7_1 c arg2 harg2 arg4 harg4 x2 x4)) = scRow x2 x4 := by
  unfold run.sl.H7_1 run.sl.r
  rw [View.read_writes_eq_canon]
  rotate_left
  · intro y
    exact ⟨_, List.mem_singleton_self _, View.mem_set_unit_zero (S := S1x2048) hz inb_S1x2048_S1x2048_0_0 y⟩
  rw [View.canon_unit_zero (S := S1x2048) hz]
  rw [View.readAt_eq_ld, View.readAt_eq_ld, harg4.read_unread, harg2.read_unread, View.ld_unit_zero (S := S1x2048) hz, View.ld_unit_zero (S := S1x1) hz]
  unfold scRow
  refine congrArg (fun i => k0_pay41 (x4 i) x2) ?_
  funext a
  match a with
  | ⟨0, h⟩ => exact Subsingleton.elim (α := Fin 1) _ _
  | ⟨1, h⟩ => exact Subsingleton.elim (α := Fin 1) _ _

theorem run_pay (i : ℕ) (inb : ∀ a, (![128 * i, 0] : Fin 2 → ℕ) a + S128x1024.size a ≤ S2048x1024.size a) :
    k0_pay6 (run.sl.r_1 c arg1 harg1 x1) (run.sl.v98 c arg2 harg2 arg4 harg4 arg7 x2 x4) (run.sl.v100 c arg2 harg2 arg4 harg4 arg7 x2 x4)
      (run.sl.r_2 c arg3 harg3 x3) (run.sl.r_3 c arg3 harg3 x3)
      (View.readAt (Elt F) arg0.view (Rect.unit (s := S2048x1024) ![128 * i, 0] S128x1024.size inb).toLoadRect (harg0.unread x0))
      = (HX arg0 arg1 arg3 arg7 (harg0.unread x0) (harg1.unread x1) (harg3.unread x3) (arg7.view.writes (Elt F) arg7.view.junk (run.sl.H7_1 c arg2 harg2 arg4 harg4 x2 x4)) 0 i) := by
  have e1 : run.sl.v98 c arg2 harg2 arg4 harg4 arg7 x2 x4
      = blkR (arg7.view.read (Elt F) (arg7.view.writes (Elt F) arg7.view.junk (run.sl.H7_1 c arg2 harg2 arg4 harg4 x2 x4))) 0 :=
    rdR arg7.view _ ![0, 0] 0 rfl inb_S1x2048_S1x128_0_0
  have e2 : run.sl.v100 c arg2 harg2 arg4 harg4 arg7 x2 x4
      = blkR (arg7.view.read (Elt F) (arg7.view.writes (Elt F) arg7.view.junk (run.sl.H7_1 c arg2 harg2 arg4 harg4 x2 x4))) 1024 :=
    rdR arg7.view _ ![0, 1024] 1024 rfl inb_S1x2048_S1x128_0_1024
  rw [e1, e2]
  unfold run.sl.r_1 run.sl.r_2 run.sl.r_3
  rw [rdX _ _ _ i rfl, rdW _ _ _ 0 rfl, rdW _ _ _ 1024 rfl, rdR _ _ _ 0 rfl, rdR _ _ _ 1024 rfl]
  rfl

theorem run_w17 : Done (HX arg0 arg1 arg3 arg7 (harg0.unread x0) (harg1.unread x1) (harg3.unread x3) (arg7.view.writes (Elt F) arg7.view.junk (run.sl.H7_1 c arg2 harg2 arg4 harg4 x2 x4)) 0) 0 1 (run.sl.H6_w17 c arg0 harg0 arg1 harg1 arg2 harg2 arg3 harg3 arg4 harg4 arg7 x0 x1 x2 x3 x4 g6) := by
  unfold run.sl.H6_w17
  exact Done.data (n := 0) (fun i hi => absurd hi (Nat.not_lt_zero i)) (by decide) rfl rfl (run_pay c arg0 harg0 arg1 harg1 arg2 harg2 arg3 harg3 arg4 harg4 arg7 x0 x1 x2 x3 x4 0 inb_S2048x1024_S128x1024_0_0)
theorem run_w18 : Done (HX arg0 arg1 arg3 arg7 (harg0.unread x0) (harg1.unread x1) (harg3.unread x3) (arg7.view.writes (Elt F) arg7.view.junk (run.sl.H7_1 c arg2 harg2 arg4 harg4 x2 x4)) 0) 0 2 (run.sl.H6_w18 c arg0 harg0 arg1 harg1 arg2 harg2 arg3 harg3 arg4 harg4 arg7 x0 x1 x2 x3 x4 g6) := by
  unfold run.sl.H6_w18
  exact Done.data (n := 1) (run_w17 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 1 inb_S2048x1024_S128x1024_128_0)
theorem run_w19 : Done (HX arg0 arg1 arg3 arg7 (harg0.unread x0) (harg1.unread x1) (harg3.unread x3) (arg7.view.writes (Elt F) arg7.view.junk (run.sl.H7_1 c arg2 harg2 arg4 harg4 x2 x4)) 0) 0 3 (run.sl.H6_w19 c arg0 harg0 arg1 harg1 arg2 harg2 arg3 harg3 arg4 harg4 arg7 x0 x1 x2 x3 x4 g6) := by
  unfold run.sl.H6_w19
  exact Done.data (n := 2) (run_w18 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 2 inb_S2048x1024_S128x1024_256_0)
theorem run_w20 : Done (HX arg0 arg1 arg3 arg7 (harg0.unread x0) (harg1.unread x1) (harg3.unread x3) (arg7.view.writes (Elt F) arg7.view.junk (run.sl.H7_1 c arg2 harg2 arg4 harg4 x2 x4)) 0) 0 4 (run.sl.H6_w20 c arg0 harg0 arg1 harg1 arg2 harg2 arg3 harg3 arg4 harg4 arg7 x0 x1 x2 x3 x4 g6) := by
  unfold run.sl.H6_w20
  exact Done.data (n := 3) (run_w19 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 3 inb_S2048x1024_S128x1024_384_0)
theorem run_w21 : Done (HX arg0 arg1 arg3 arg7 (harg0.unread x0) (harg1.unread x1) (harg3.unread x3) (arg7.view.writes (Elt F) arg7.view.junk (run.sl.H7_1 c arg2 harg2 arg4 harg4 x2 x4)) 0) 0 5 (run.sl.H6_w21 c arg0 harg0 arg1 harg1 arg2 harg2 arg3 harg3 arg4 harg4 arg7 x0 x1 x2 x3 x4 g6) := by
  unfold run.sl.H6_w21
  exact Done.data (n := 4) (run_w20 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 4 inb_S2048x1024_S128x1024_512_0)
theorem run_w22 : Done (HX arg0 arg1 arg3 arg7 (harg0.unread x0) (harg1.unread x1) (harg3.unread x3) (arg7.view.writes (Elt F) arg7.view.junk (run.sl.H7_1 c arg2 harg2 arg4 harg4 x2 x4)) 0) 0 6 (run.sl.H6_w22 c arg0 harg0 arg1 harg1 arg2 harg2 arg3 harg3 arg4 harg4 arg7 x0 x1 x2 x3 x4 g6) := by
  unfold run.sl.H6_w22
  exact Done.data (n := 5) (run_w21 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 5 inb_S2048x1024_S128x1024_640_0)
theorem run_w23 : Done (HX arg0 arg1 arg3 arg7 (harg0.unread x0) (harg1.unread x1) (harg3.unread x3) (arg7.view.writes (Elt F) arg7.view.junk (run.sl.H7_1 c arg2 harg2 arg4 harg4 x2 x4)) 0) 0 7 (run.sl.H6_w23 c arg0 harg0 arg1 harg1 arg2 harg2 arg3 harg3 arg4 harg4 arg7 x0 x1 x2 x3 x4 g6) := by
  unfold run.sl.H6_w23
  exact Done.data (n := 6) (run_w22 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 6 inb_S2048x1024_S128x1024_768_0)
theorem run_w24 : Done (HX arg0 arg1 arg3 arg7 (harg0.unread x0) (harg1.unread x1) (harg3.unread x3) (arg7.view.writes (Elt F) arg7.view.junk (run.sl.H7_1 c arg2 harg2 arg4 harg4 x2 x4)) 0) 0 8 (run.sl.H6_w24 c arg0 harg0 arg1 harg1 arg2 harg2 arg3 harg3 arg4 harg4 arg7 x0 x1 x2 x3 x4 g6) := by
  unfold run.sl.H6_w24
  exact Done.data (n := 7) (run_w23 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 7 inb_S2048x1024_S128x1024_896_0)
theorem run_w25 : Done (HX arg0 arg1 arg3 arg7 (harg0.unread x0) (harg1.unread x1) (harg3.unread x3) (arg7.view.writes (Elt F) arg7.view.junk (run.sl.H7_1 c arg2 harg2 arg4 harg4 x2 x4)) 0) 0 9 (run.sl.H6_w25 c arg0 harg0 arg1 harg1 arg2 harg2 arg3 harg3 arg4 harg4 arg7 x0 x1 x2 x3 x4 g6) := by
  unfold run.sl.H6_w25
  exact Done.data (n := 8) (run_w24 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 8 inb_S2048x1024_S128x1024_1024_0)
theorem run_w26 : Done (HX arg0 arg1 arg3 arg7 (harg0.unread x0) (harg1.unread x1) (harg3.unread x3) (arg7.view.writes (Elt F) arg7.view.junk (run.sl.H7_1 c arg2 harg2 arg4 harg4 x2 x4)) 0) 0 10 (run.sl.H6_w26 c arg0 harg0 arg1 harg1 arg2 harg2 arg3 harg3 arg4 harg4 arg7 x0 x1 x2 x3 x4 g6) := by
  unfold run.sl.H6_w26
  exact Done.data (n := 9) (run_w25 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 9 inb_S2048x1024_S128x1024_1152_0)
theorem run_w27 : Done (HX arg0 arg1 arg3 arg7 (harg0.unread x0) (harg1.unread x1) (harg3.unread x3) (arg7.view.writes (Elt F) arg7.view.junk (run.sl.H7_1 c arg2 harg2 arg4 harg4 x2 x4)) 0) 0 11 (run.sl.H6_w27 c arg0 harg0 arg1 harg1 arg2 harg2 arg3 harg3 arg4 harg4 arg7 x0 x1 x2 x3 x4 g6) := by
  unfold run.sl.H6_w27
  exact Done.data (n := 10) (run_w26 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 10 inb_S2048x1024_S128x1024_1280_0)
theorem run_w28 : Done (HX arg0 arg1 arg3 arg7 (harg0.unread x0) (harg1.unread x1) (harg3.unread x3) (arg7.view.writes (Elt F) arg7.view.junk (run.sl.H7_1 c arg2 harg2 arg4 harg4 x2 x4)) 0) 0 12 (run.sl.H6_w28 c arg0 harg0 arg1 harg1 arg2 harg2 arg3 harg3 arg4 harg4 arg7 x0 x1 x2 x3 x4 g6) := by
  unfold run.sl.H6_w28
  exact Done.data (n := 11) (run_w27 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 11 inb_S2048x1024_S128x1024_1408_0)
theorem run_w29 : Done (HX arg0 arg1 arg3 arg7 (harg0.unread x0) (harg1.unread x1) (harg3.unread x3) (arg7.view.writes (Elt F) arg7.view.junk (run.sl.H7_1 c arg2 harg2 arg4 harg4 x2 x4)) 0) 0 13 (run.sl.H6_w29 c arg0 harg0 arg1 harg1 arg2 harg2 arg3 harg3 arg4 harg4 arg7 x0 x1 x2 x3 x4 g6) := by
  unfold run.sl.H6_w29
  exact Done.data (n := 12) (run_w28 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 12 inb_S2048x1024_S128x1024_1536_0)
theorem run_w30 : Done (HX arg0 arg1 arg3 arg7 (harg0.unread x0) (harg1.unread x1) (harg3.unread x3) (arg7.view.writes (Elt F) arg7.view.junk (run.sl.H7_1 c arg2 harg2 arg4 harg4 x2 x4)) 0) 0 14 (run.sl.H6_w30 c arg0 harg0 arg1 harg1 arg2 harg2 arg3 harg3 arg4 harg4 arg7 x0 x1 x2 x3 x4 g6) := by
  unfold run.sl.H6_w30
  exact Done.data (n := 13) (run_w29 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 13 inb_S2048x1024_S128x1024_1664_0)
theorem run_w31 : Done (HX arg0 arg1 arg3 arg7 (harg0.unread x0) (harg1.unread x1) (harg3.unread x3) (arg7.view.writes (Elt F) arg7.view.junk (run.sl.H7_1 c arg2 harg2 arg4 harg4 x2 x4)) 0) 0 15 (run.sl.H6_w31 c arg0 harg0 arg1 harg1 arg2 harg2 arg3 harg3 arg4 harg4 arg7 x0 x1 x2 x3 x4 g6) := by
  unfold run.sl.H6_w31
  exact Done.data (n := 14) (run_w30 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 14 inb_S2048x1024_S128x1024_1792_0)
theorem run_w32 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w32 c arg0 harg0 arg1 harg1 arg2 harg2 arg3 harg3 arg4 harg4 arg7 x0 x1 x2 x3 x4 g6) := by
  unfold run.sl.H6_w32
  exact Done.data (n := 15) (run_w31 c arg0 harg0 arg1 harg1 arg2 harg2 arg3 harg3 arg4 harg4 arg7 x0 x1 x2 x3 x4 g6) (by decide) rfl rfl (run_pay c arg0 harg0 arg1 harg1 arg2 harg2 arg3 harg3 arg4 harg4 arg7 x0 x1 x2 x3 x4 15 inb_S2048x1024_S128x1024_1920_0)
theorem run_w33 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w33 c arg0 harg0 arg1 harg1 arg2 harg2 arg3 harg3 arg4 harg4 arg7 x0 x1 x2 x3 x4 g6) := by
  unfold run.sl.H6_w33
  exact Done.halo (run_w32 c arg0 harg0 arg1 harg1 arg2 harg2 arg3 harg3 arg4 harg4 arg7 x0 x1 x2 x3 x4 g6) (by decide) rfl (by decide)
theorem run_w34 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w34 c arg0 harg0 arg1 harg1 arg2 harg2 arg3 harg3 arg4 harg4 arg7 x0 x1 x2 x3 x4 g6) := by
  unfold run.sl.H6_w34
  exact Done.halo (run_w33 c arg0 harg0 arg1 harg1 arg2 harg2 arg3 harg3 arg4 harg4 arg7 x0 x1 x2 x3 x4 g6) (by decide) rfl (by decide)
theorem run_w35 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w35 c arg0 harg0 arg1 harg1 arg2 harg2 arg3 harg3 arg4 harg4 arg7 x0 x1 x2 x3 x4 g6) := by
  unfold run.sl.H6_w35
  exact Done.halo (run_w34 c arg0 harg0 arg1 harg1 arg2 harg2 arg3 harg3 arg4 harg4 arg7 x0 x1 x2 x3 x4 g6) (by decide) rfl (by decide)
theorem run_w36 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w36 c arg0 harg0 arg1 harg1 arg2 harg2 arg3 harg3 arg4 harg4 arg7 x0 x1 x2 x3 x4 g6) := by
  unfold run.sl.H6_w36
  exact Done.halo (run_w35 c arg0 harg0 arg1 harg1 arg2 harg2 arg3 harg3 arg4 harg4 arg7 x0 x1 x2 x3 x4 g6) (by decide) rfl (by decide)
theorem run_w37 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w37 c arg0 harg0 arg1 harg1 arg2 harg2 arg3 harg3 arg4 harg4 arg7 x0 x1 x2 x3 x4 g6) := by
  unfold run.sl.H6_w37
  exact Done.halo (run_w36 c arg0 harg0 arg1 harg1 arg2 harg2 arg3 harg3 arg4 harg4 arg7 x0 x1 x2 x3 x4 g6) (by decide) rfl (by decide)
theorem run_w38 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w38 c arg0 harg0 arg1 harg1 arg2 harg2 arg3 harg3 arg4 harg4 arg7 x0 x1 x2 x3 x4 g6) := by
  unfold run.sl.H6_w38
  exact Done.halo (run_w37 c arg0 harg0 arg1 harg1 arg2 harg2 arg3 harg3 arg4 harg4 arg7 x0 x1 x2 x3 x4 g6) (by decide) rfl (by decide)
theorem run_w39 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w39 c arg0 harg0 arg1 harg1 arg2 harg2 arg3 harg3 arg4 harg4 arg7 x0 x1 x2 x3 x4 g6) := by
  unfold run.sl.H6_w39
  exact Done.halo (run_w38 c arg0 harg0 arg1 harg1 arg2 harg2 arg3 harg3 arg4 harg4 arg7 x0 x1 x2 x3 x4 g6) (by decide) rfl (by decide)
theorem run_w40 : Done (HX arg0 arg1 arg3 arg7 (harg0.unread x0) (harg1.unread x1) (harg3.unread x3) (arg7.view.writes (Elt F) arg7.view.junk (run.sl.H7_1 c arg2 harg2 arg4 harg4 x2 x4)) 0) 0 16 (run.sl.H6_w40 c arg0 harg0 arg1 harg1 arg2 harg2 arg3 harg3 arg4 harg4 arg7 x0 x1 x2 x3 x4 g6) := by
  unfold run.sl.H6_w40
  exact Done.halo (run_w39 c arg0 harg0 arg1 harg1 arg2 harg2 arg3 harg3 arg4 harg4 arg7 x0 x1 x2 x3 x4 g6) (by decide) rfl (by decide)

/-- The pieces the body writes: the last column's, then the loop's. -/
theorem run_pieces : (run (F := F) c arg0 harg0 arg1 harg1 arg2 harg2 arg3 harg3 arg4 harg4 arg5 harg5 arg7 harg7 x0 x1 x2 x3 x4 g6).1 =
    [⟨Rect.unit (s := S2048x1024) ![1792, 896] S256x128.size inb_S2048x1024_S256x128_1792_896, run.sl.v530 c arg0 harg0 arg1 harg1 arg2 harg2 arg3 harg3 arg4 harg4 arg5 harg5 arg7 harg7 x0 x1 x2 x3 x4 g6⟩,
      ⟨Rect.unit (s := S2048x1024) ![1536, 896] S256x128.size inb_S2048x1024_S256x128_1536_896, run.sl.v525 c arg0 harg0 arg1 harg1 arg2 harg2 arg3 harg3 arg4 harg4 arg5 harg5 arg7 harg7 x0 x1 x2 x3 x4 g6⟩,
      ⟨Rect.unit (s := S2048x1024) ![1280, 896] S256x128.size inb_S2048x1024_S256x128_1280_896, run.sl.v520 c arg0 harg0 arg1 harg1 arg2 harg2 arg3 harg3 arg4 harg4 arg5 harg5 arg7 harg7 x0 x1 x2 x3 x4 g6⟩,
      ⟨Rect.unit (s := S2048x1024) ![1024, 896] S256x128.size inb_S2048x1024_S256x128_1024_896, run.sl.v515 c arg0 harg0 arg1 harg1 arg2 harg2 arg3 harg3 arg4 harg4 arg5 harg5 arg7 harg7 x0 x1 x2 x3 x4 g6⟩,
      ⟨Rect.unit (s := S2048x1024) ![768, 896] S256x128.size inb_S2048x1024_S256x128_768_896, run.sl.v510 c arg0 harg0 arg1 harg1 arg2 harg2 arg3 harg3 arg4 harg4 arg5 harg5 arg7 harg7 x0 x1 x2 x3 x4 g6⟩,
      ⟨Rect.unit (s := S2048x1024) ![512, 896] S256x128.size inb_S2048x1024_S256x128_512_896, run.sl.v505 c arg0 harg0 arg1 harg1 arg2 harg2 arg3 harg3 arg4 harg4 arg5 harg5 arg7 harg7 x0 x1 x2 x3 x4 g6⟩,
      ⟨Rect.unit (s := S2048x1024) ![256, 896] S256x128.size inb_S2048x1024_S256x128_256_896, run.sl.v500 c arg0 harg0 arg1 harg1 arg2 harg2 arg3 harg3 arg4 harg4 arg5 harg5 arg7 harg7 x0 x1 x2 x3 x4 g6⟩,
      ⟨Rect.unit (s := S2048x1024) ![0, 896] S256x128.size inb_S2048x1024_S256x128_0_896, run.sl.v495 c arg0 harg0 arg1 harg1 arg2 harg2 arg3 harg3 arg4 harg4 arg5 harg5 arg7 harg7 x0 x1 x2 x3 x4 g6⟩] ++ (st (F := F) c arg0 harg0 arg1 harg1 arg2 harg2 arg3 harg3 arg4 harg4 arg5 harg5 arg7 harg7 (harg0.unread x0) (harg1.unread x1) (harg3.unread x3) (arg7.view.writes (Elt F) arg7.view.junk (run.sl.H7_1 c arg2 harg2 arg4 harg4 x2 x4)) (run.sl.H6_w40 c arg0 harg0 arg1 harg1 arg2 harg2 arg3 harg3 arg4 harg4 arg7 x0 x1 x2 x3 x4 g6) k0_t1_loop.trips).2 := by
  unfold run; rfl

/-- Every piece is the gated product where it is written. -/
theorem run_agree : ∀ p ∈ (run (F := F) c arg0 harg0 arg1 harg1 arg2 harg2 arg3 harg3 arg4 harg4 arg5 harg5 arg7 harg7 x0 x1 x2 x3 x4 g6).1, ∀ z : p.1.shape.Idx, p.2 z = hAt x0 x1 (scRow x2 x4) x3 (p.1.emb z) := by
  have hs := st_spec (F := F) c arg0 harg0 arg1 harg1 arg2 harg2 arg3 harg3 arg4 harg4 arg5 harg5 arg7 harg7 (harg0.unread x0) (harg1.unread x1) (harg3.unread x3)
    (arg7.view.writes (Elt F) arg7.view.junk (run.sl.H7_1 c arg2 harg2 arg4 harg4 x2 x4)) (run.sl.H6_w40 c arg0 harg0 arg1 harg1 arg2 harg2 arg3 harg3 arg4 harg4 arg7 x0 x1 x2 x3 x4 g6)
    (run_w40 c arg0 harg0 arg1 harg1 arg2 harg2 arg3 harg3 arg4 harg4 arg7 x0 x1 x2 x3 x4 g6) k0_t1_loop.trips (Nat.le_refl _)
  have ht : k0_t1_loop.trips = 7 := by decide +kernel
  intro p hp
  rw [run_pieces] at hp
  have hb : hAt (arg0.view.read (Elt F) (harg0.unread x0)) (arg1.view.read (Elt F) (harg1.unread x1))
      (arg7.view.read (Elt F) (arg7.view.writes (Elt F) arg7.view.junk (run.sl.H7_1 c arg2 harg2 arg4 harg4 x2 x4)))
      (arg3.view.read (Elt F) (harg3.unread x3)) = hAt x0 x1 (scRow x2 x4) x3 := by
    rw [scale_read c arg2 harg2 arg4 harg4 arg7 x2 x4, harg0.read_unread, harg1.read_unread, harg3.read_unread]
  have hd := hs.1
  rw [show k0_t1_loop.trips % 2 = 1 by rw [ht]] at hd
  rw [← hb]
  rcases List.mem_append.mp hp with hp | hp
  · simp only [List.mem_cons, List.not_mem_nil, or_false] at hp
    rcases hp with rfl | rfl | rfl | rfl | rfl | rfl | rfl | rfl <;> intro z
    · dsimp only at z ⊢; unfold run.sl.v530; exact export_eq _ _ _ _ hd _ _ (fun _ => rfl) 2060 7 (by decide) rfl _ (by decide) rfl _ (by rw [ht]) _ z
    · dsimp only at z ⊢; unfold run.sl.v525; exact export_eq _ _ _ _ hd _ _ (fun _ => rfl) 1768 6 (by decide) rfl _ (by decide) rfl _ (by rw [ht]) _ z
    · dsimp only at z ⊢; unfold run.sl.v520; exact export_eq _ _ _ _ hd _ _ (fun _ => rfl) 1476 5 (by decide) rfl _ (by decide) rfl _ (by rw [ht]) _ z
    · dsimp only at z ⊢; unfold run.sl.v515; exact export_eq _ _ _ _ hd _ _ (fun _ => rfl) 1184 4 (by decide) rfl _ (by decide) rfl _ (by rw [ht]) _ z
    · dsimp only at z ⊢; unfold run.sl.v510; exact export_eq _ _ _ _ hd _ _ (fun _ => rfl) 892 3 (by decide) rfl _ (by decide) rfl _ (by rw [ht]) _ z
    · dsimp only at z ⊢; unfold run.sl.v505; exact export_eq _ _ _ _ hd _ _ (fun _ => rfl) 600 2 (by decide) rfl _ (by decide) rfl _ (by rw [ht]) _ z
    · dsimp only at z ⊢; unfold run.sl.v500; exact export_eq _ _ _ _ hd _ _ (fun _ => rfl) 308 1 (by decide) rfl _ (by decide) rfl _ (by rw [ht]) _ z
    · dsimp only at z ⊢; unfold run.sl.v495; exact export_eq _ _ _ _ hd _ _ (fun _ => rfl) 16 0 (by decide) rfl _ (by decide) rfl _ (by rw [ht]) _ z
  · exact hs.2 p hp

/-- The pieces cover the output. -/
theorem run_cover (y : S2048x1024.Idx) : ∃ p ∈ (run (F := F) c arg0 harg0 arg1 harg1 arg2 harg2 arg3 harg3 arg4 harg4 arg5 harg5 arg7 harg7 x0 x1 x2 x3 x4 g6).1, y ∈ p.1.set :=
  View.cover_of_tiledL (run (F := F) c arg0 harg0 arg1 harg1 arg2 harg2 arg3 harg3 arg4 harg4 arg5 harg5 arg7 harg7 x0 x1 x2 x3 x4 g6).1 S256x128.size (by sl_kernel_rfl) y

/-- So the output's buffer, written with them, holds the gated product. -/
theorem run_read (f : BufTy.Contents (Elt F) arg5.view.ty) :
    arg5.view.read (Elt F) (arg5.view.writes (Elt F) f (run (F := F) c arg0 harg0 arg1 harg1 arg2 harg2 arg3 harg3 arg4 harg4 arg5 harg5 arg7 harg7 x0 x1 x2 x3 x4 g6).1) = hAt x0 x1 (scRow x2 x4) x3 := by
  funext y
  rw [View.read_writes_eq_canon _ _ _ (run_cover c arg0 harg0 arg1 harg1 arg2 harg2 arg3 harg3 arg4 harg4 arg5 harg5 arg7 harg7 x0 x1 x2 x3 x4 g6)]
  exact View.canon_apply_of_pieces _ _ (run_agree c arg0 harg0 arg1 harg1 arg2 harg2 arg3 harg3 arg4 harg4 arg5 harg5 arg7 harg7 x0 x1 x2 x3 x4 g6) y (run_cover c arg0 harg0 arg1 harg1 arg2 harg2 arg3 harg3 arg4 harg4 arg5 harg5 arg7 harg7 x0 x1 x2 x3 x4 g6 y)

end

end Cert.KernelMmIdeal.Mm

end
-- ==== Proof.MmFrame.lean ====
/- The frame of the product kernel: the body obligation from the whole body's run, the launch, the result array named. -/
module

public import proofs.«01_k».proof.Proof.MmBody
public import Idealize.ShloMosaic.Lib.Pipeline.Value

@[expose] public section

set_option maxRecDepth 16384

noncomputable section

namespace Cert.KernelMmIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMmIdeal Cert.KernelMmIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0_0 (t : Fin cfg0.N) : Memref sig .tc .vmem S2048x1024 .fp8e4m3 := win0_0.stage (cfg0.slots t 0)
abbrev ms0_1 (t : Fin cfg0.N) : Memref sig .tc .vmem S1024x2048 .fp8e4m3 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S1x2048 .f32 := win0_3.stage (cfg0.slots t 3)
abbrev ms0_4 (t : Fin cfg0.N) : Memref sig .tc .smem S1x1 .f32 := win0_4.stage (cfg0.slots t 4)
abbrev ms0_5 (t : Fin cfg0.N) : Memref sig .tc .vmem S2048x1024 .f32 := win0_5.stage (cfg0.slots t 5)

/-- What the output's staging buffer holds after the body: the gated product of the point's blocks. -/
def outAt0 (c : Dev nD) (t : Fin cfg0.N) : Vec F S2048x1024 .f32 :=
  hAt (iblk m c 0 t) (iblk m c 1 t) (scRow (iblk m c 2 t) (iblk m c 4 t)) (iblk m c 3 t)

/-- The proof data of the one pipeline: the arrays as the region finds them; after the body each input's buffer at its block and
    the output's at the gated product; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt0 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The invariant: the two slots at some contents, the scale row's buffer at some contents, and the generator register. -/
theorem PhiA0_eq (c : Dev nD) :
    (Pipeline.ΦA spec0 c : sProp 𝕄)
      = iprop(iprop((∃ f : Buf (Elt F) ((c : Thread nD τ).loc cc0_scratch0), ((c : Thread nD τ).loc cc0_scratch0) ↦{fullShare} f)
          ∗ (∃ d, owns (c : Thread nD τ) (Memref.whole cc0_scratch1 : Memref sig .tc .vmem S1x2048 .f32) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: its run applies, and what it writes to the output is the gated product, whatever the slots held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outAt0
  iintro ⟨⟨⟨⟨%g6, HS0⟩, HS1⟩, Hg⟩, Ho, ⟨%d0, H0⟩, ⟨%d1, H1⟩, ⟨%d2, H2⟩, ⟨%d3, H3⟩, ⟨%d4, H4⟩, ⟨%d5, H5⟩⟩
  iapply ((run (F := F) c _ _ _ _ _ _ _ _ _ _ _ _ _ _ (iblk m c 0 t) (iblk m c 1 t) (iblk m c 2 t) (iblk m c 3 t) (iblk m c 4 t) g6).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact run_read c _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion with this one, which takes unfolding plain
-- definitions in a metavariable's type
set_option backward.isDefEq.respectTransparency.types false in
/-- The launch, with every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame, with the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelMmIdeal.Mm

end
-- ==== Proof.MmKernel.lean ====
module

public import proofs.«01_k».proof.Proof.MmFrame
public import Idealize.ShloMosaic.Lib.Pipeline.Value
public import Idealize.ShloMosaic.Lib.Pointwise
public import Idealize.ShloMosaic.Lib.Ring
public import Idealize.ShloMosaic.Lib.Tactic

/-!
What `KernelMmIdeal` leaves in its result array, read at an index: the first half of the scaled product's columns, each gated by the
logistic function of the second half's.
-/

@[expose] public section

set_option maxRecDepth 16384

noncomputable section

open Idealize.ShloMosaic Idealize.ShloMosaic.TcCoe Idealize.SL.Sem
open Idealize.ShloMosaic.Pipeline (Dat)

namespace Cert.KernelMmIdeal.MmValue

open Cert.KernelMmIdeal Cert.KernelMmIdeal.Gen Cert.KernelMmIdeal.Mm

/-- Column `j` of row `r` of the scaled product plus the bias. -/
def accAt (x : Vec Ideal S2048x1024 .fp8e4m3) (w : Vec Ideal S1024x2048 .fp8e4m3) (sc b : Vec Ideal S1x2048 .f32) (r j : Fin 2048) : EReal :=
  (∑ k : Fin 1024, x (ix2 r k) * w (ix2 k j)) * sc (ix2 0 j) + b (ix2 0 j)

/-- The gated product at row `y 0`, column `y 1`. -/
def gAt (x : Vec Ideal S2048x1024 .fp8e4m3) (w : Vec Ideal S1024x2048 .fp8e4m3) (sc b : Vec Ideal S1x2048 .f32) : Vec Ideal S2048x1024 .f32 :=
  fun y => accAt x w sc b (y 0) ⟨(y 1 : Fin 1024).val, Nat.lt_trans (y 1 : Fin 1024).isLt (by decide)⟩
    * Ideal.logistic (accAt x w sc b (y 0) ⟨1024 + (y 1 : Fin 1024).val, Nat.add_lt_add_left (y 1 : Fin 1024).isLt 1024⟩)

/-- One block of the product and its gate, of any operands. -/
theorem pay6_apply (wa wb : Vec Ideal S1024x128 .fp8e4m3) (sa sb ba bb : Vec Ideal S1x128 .f32) (x : Vec Ideal S128x1024 .fp8e4m3) (j0 j1 : Fin 128) :
    k0_pay6 (F := Ideal) (k0_pay1 wa wb) sa sb (k0_pay2 ba) (k0_pay3 bb) x (ix2 j0 j1)
      = ((∑ k : Fin 1024, x (ix2 j0 k) * wa (ix2 k j1)) * sa (ix2 0 j1) + ba (ix2 0 j1))
        * Ideal.logistic ((∑ k : Fin 1024, x (ix2 j0 k) * wb (ix2 k j1)) * sb (ix2 0 j1) + bb (ix2 0 j1)) := by
  unfold k0_pay6 k0_pay1 k0_pay2 k0_pay3
  pointwise

/-- The kernel's scale row: the weight scales times the one scale. -/
theorem scRow_apply (x2 : Vec Ideal S1x2048 .f32) (x4 : Vec Ideal S1x1 .f32) : scRow x2 x4 = fun j => x2 j * x4 (ix2 0 0) := by
  funext j
  unfold scRow
  idx_vars j
  unfold k0_pay41
  pointwise

/-- The blocks of 128 rows and 128 columns, put together. -/
theorem hAt_eq (x : Vec Ideal S2048x1024 .fp8e4m3) (w : Vec Ideal S1024x2048 .fp8e4m3) (sc b : Vec Ideal S1x2048 .f32) :
    hAt x w sc b = gAt x w sc b := by
  funext y
  have h0 : (y 0 : Fin 2048).val < 2048 := (y 0 : Fin 2048).isLt
  have h1 : (y 1 : Fin 1024).val < 1024 := (y 1 : Fin 1024).isLt
  have hr : ∀ p, (⟨(128 * ((y 0 : Fin 2048).val / 128) + (y 0 : Fin 2048).val % 128) % 2048, p⟩ : Fin 2048) = (y 0 : Fin 2048) := fun p => Fin.ext (by
    show (128 * ((y 0 : Fin 2048).val / 128) + (y 0 : Fin 2048).val % 128) % 2048 = (y 0 : Fin 2048).val; omega)
  have ha : ∀ p q, (⟨(128 * ((y 1 : Fin 1024).val / 128) + (y 1 : Fin 1024).val % 128) % 2048, p⟩ : Fin 2048) = ⟨(y 1 : Fin 1024).val, q⟩ := fun p q => Fin.ext (by
    show (128 * ((y 1 : Fin 1024).val / 128) + (y 1 : Fin 1024).val % 128) % 2048 = (y 1 : Fin 1024).val; omega)
  have hb : ∀ p q, (⟨(1024 + 128 * ((y 1 : Fin 1024).val / 128) + (y 1 : Fin 1024).val % 128) % 2048, p⟩ : Fin 2048) = ⟨1024 + (y 1 : Fin 1024).val, q⟩ := fun p q => Fin.ext (by
    show (1024 + 128 * ((y 1 : Fin 1024).val / 128) + (y 1 : Fin 1024).val % 128) % 2048 = 1024 + (y 1 : Fin 1024).val; omega)
  refine (pay6_apply _ _ _ _ _ _ _ _ _).trans ?_
  unfold gAt accAt blkX blkW blkR
  simp only [ix2_0, ix2_1, hr, ha _ (Nat.lt_trans h1 (by decide)), hb _ (Nat.add_lt_add_left h1 1024)]

/-! ## The result array after the run -/

section
variable {F : FTy → Type} [FloatOps F]
variable (m : (ℓ : Loc nD τ sig) → Buf (Elt F) ℓ)

/-- Window 0's one block is its whole array. -/
theorem iblk_0 (c : Dev nD) (t : Fin cfg0.N) : iblk m c 0 t = V m c main_v0 := by
  have hz' : (fun a => win0_0.index t a * main_v0.ty.shape.size a) = fun _ => 0 := funext fun a => by
    obtain rfl : t = t0_0 := fin_N0 t
    fin_cases a <;> decide
  exact Memref.read_access_unit_zero (Elt F) main_v0 hz' (fun a => by rw [congrFun hz' a]; simp) (V m c main_v0)

/-- Window 1's one block is its whole array. -/
theorem iblk_1 (c : Dev nD) (t : Fin cfg0.N) : iblk m c 1 t = V m c main_arg1 := by
  have hz' : (fun a => win0_1.index t a * main_arg1.ty.shape.size a) = fun _ => 0 := funext fun a => by
    obtain rfl : t = t0_0 := fin_N0 t
    fin_cases a <;> decide
  exact Memref.read_access_unit_zero (Elt F) main_arg1 hz' (fun a => by rw [congrFun hz' a]; simp) (V m c main_arg1)

/-- Window 2's one block is its whole array. -/
theorem iblk_2 (c : Dev nD) (t : Fin cfg0.N) : iblk m c 2 t = V m c main_v1 := by
  have hz' : (fun a => win0_2.index t a * main_v1.ty.shape.size a) = fun _ => 0 := funext fun a => by
    obtain rfl : t = t0_0 := fin_N0 t
    fin_cases a <;> decide
  exact Memref.read_access_unit_zero (Elt F) main_v1 hz' (fun a => by rw [congrFun hz' a]; simp) (V m c main_v1)

/-- Window 3's one block is its whole array. -/
theorem iblk_3 (c : Dev nD) (t : Fin cfg0.N) : iblk m c 3 t = V m c main_v2 := by
  have hz' : (fun a => win0_3.index t a * main_v2.ty.shape.size a) = fun _ => 0 := funext fun a => by
    obtain rfl : t = t0_0 := fin_N0 t
    fin_cases a <;> decide
  exact Memref.read_access_unit_zero (Elt F) main_v2 hz' (fun a => by rw [congrFun hz' a]; simp) (V m c main_v2)

/-- Window 4's one block is its whole array. -/
theorem iblk_4 (c : Dev nD) (t : Fin cfg0.N) : iblk m c 4 t = V m c main_v3 := by
  have hz' : (fun a => win0_4.index t a * main_v3.ty.shape.size a) = fun _ => 0 := funext fun a => by
    obtain rfl : t = t0_0 := fin_N0 t
    fin_cases a <;> decide
  exact Memref.read_access_unit_zero (Elt F) main_v3 hz' (fun a => by rw [congrFun hz' a]; simp) (V m c main_v3)

end

variable (m : (ℓ : Loc nD τ sig) → Buf (Elt Ideal) ℓ) (ρ : Dev nD → PrngReg)

/-- The gated product of the arguments as launched. -/
def result (c : Dev nD) : Buf (Elt Ideal) ((c.tc : Thread nD τ).loc main_v4) :=
  gAt (shapeCast S2048x1024 (m ((c.tc : Thread nD τ).loc main_arg0)) shapeCasts_S4x512x1024_S2048x1024)
    (m ((c.tc : Thread nD τ).loc main_arg1))
    (fun j => (shapeCast S1x2048 (m ((c.tc : Thread nD τ).loc main_arg2)) shapeCasts_S2048_S1x2048 : Vec Ideal S1x2048 .f32) j * (shapeCast S1x1 (m ((c.tc : Thread nD τ).loc main_arg4)) shapeCasts_S_S1x1 : Vec Ideal S1x1 .f32) (ix2 0 0))
    (shapeCast S1x2048 (m ((c.tc : Thread nD τ).loc main_arg3)) shapeCasts_S2048_S1x2048)

/-- The output window's one block is written back once. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => absurd ((fin_N0 t).trans (fin_N0 t').symm) hne

/-- The result array, whose one block is the whole array, ends holding it. -/
theorem final (c : Dev nD) : (dats m 0 c).arrAt 5 cfg0.N = result m c := by
  have hz' : (fun a => win0_5.index t0_0 a * main_v4.ty.shape.size a) = fun _ => 0 := funext fun a => by fin_cases a <;> decide
  have hr : ((cfg0.win 5).blk t0_0).view.read (Elt Ideal) ((dats m 0 c).arrAt 5 cfg0.N) = (dats m 0 c).arrAt 5 cfg0.N :=
    Memref.read_access_unit_zero (Elt Ideal) main_v4 hz' (fun a => by rw [congrFun hz' a]; simp) _
  have hf : (dats m 0 c).flushed 5 t0_0 = (cfg0.win 5).cut (grid0.coords t0_0) (outAt0 m c t0_0) := by
    show (cfg0.win 5).cut (grid0.coords t0_0) ((dats m 0 c).after 5 t0_0) = _
    rw [after0_5]
  refine hr.symm.trans (((dats m 0 c).read_blk_arrAt_eq_flushed 5 disjoint5 cfg0.N t0_0 t0_0.isLt (by decide)).trans (hf.trans ?_))
  unfold outAt0
  rw [hAt_eq, scRow_apply, iblk_0, iblk_1, iblk_2, iblk_3, iblk_4]
  rw [V_main_arg1]
  rfl

/-- The run: the result array holds the gated product, the arguments are unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (final m c), h.2 c⟩)
    (θ_run_and (Mm.run_main (F := Ideal) m ρ) (Mm.unchanged (F := Ideal) m ρ))

end Cert.KernelMmIdeal.MmValue
end
-- ==== Proof.MmReference.lean ====
module

public import proofs.«01_k».proof.Proof.MmKernel
public import proofs.«01_k».proof.Proof.Gen.ReferenceMmIdeal.Value

/-!
What `ReferenceMmIdeal` leaves in its result array: the same function of the row and the column (`MmValue.gAt`), its scale
row multiplied in the other order.
-/

@[expose] public section

set_option maxRecDepth 16384

noncomputable section

open Idealize.ShloMosaic Idealize.ShloMosaic.TcCoe Idealize.SL.Sem
open Idealize.ShloMosaic.Pipeline (Dat)

namespace Cert.ReferenceMmIdeal.MmValue

open Cert.ReferenceMmIdeal Cert.ReferenceMmIdeal.Gen

theorem hz : (![0, 0] : Fin 2 → Nat) = fun _ => 0 := funext fun a => by fin_cases a <;> rfl

theorem pay1_apply (v0 : Vec Ideal S2048x1024 .fp8e4m3) (v2 : Vec Ideal S1024x2048 .fp8e4m3) (v4 : Elt Ideal .f32)
    (v5 v11 : Vec Ideal S1x2048 .f32) :
    k0_pay1 (F := Ideal) v0 v2 v4 v5 v11 = Cert.KernelMmIdeal.MmValue.gAt v0 v2 (fun j => v4 * v5 j) v11 := by
  funext j
  idx_vars j
  unfold k0_pay1 Cert.KernelMmIdeal.MmValue.gAt Cert.KernelMmIdeal.MmValue.accAt
  pointwise

/-- Reading the one scale. -/
theorem ld_one (x4 : Vec Ideal S1x1 .f32) (z : S1x1.Idx) :
    View.ld x4 (Rect.unit (s := S1x1) ![0, 0] S1x1.size inb_S1x1_S1x1_0_0) z = x4 (ix2 0 0) := by
  refine congrArg x4 ?_
  funext a
  match a with
  | ⟨0, h⟩ => exact Subsingleton.elim (α := Fin 1) _ _
  | ⟨1, h⟩ => exact Subsingleton.elim (α := Fin 1) _ _

/-- The one store's payload, of whole-buffer loads. -/
theorem out_A (c : Dev nD) (arg0 : Memref sig .tc .vmem S2048x1024 .fp8e4m3) (harg0 : arg0.IsWhole) (arg1 : Memref sig .tc .vmem S1024x2048 .fp8e4m3) (harg1 : arg1.IsWhole) (arg2 : Memref sig .tc .vmem S1x2048 .f32) (harg2 : arg2.IsWhole) (arg3 : Memref sig .tc .vmem S1x2048 .f32) (harg3 : arg3.IsWhole) (arg4 : Memref sig .tc .smem S1x1 .f32) (harg4 : arg4.IsWhole) (arg5 : Memref sig .tc .vmem S2048x1024 .f32) (harg5 : arg5.IsWhole)
    (x0 : Vec Ideal S2048x1024 .fp8e4m3) (x1 : Vec Ideal S1024x2048 .fp8e4m3) (x2 : Vec Ideal S1x2048 .f32) (x3 : Vec Ideal S1x2048 .f32) (x4 : Vec Ideal S1x1 .f32) :
    out0_A_5 (F := Ideal) c arg0 harg0 arg1 harg1 arg2 harg2 arg3 harg3 arg4 harg4 arg5 harg5 x0 x1 x2 x3 x4
      = Cert.KernelMmIdeal.MmValue.gAt x0 x1 (fun j => x4 (ix2 0 0) * x2 j) x3 := by
  unfold out0_A_5
  rw [View.read_writes_eq_canon _ _ _ (cover0_A_5 c arg0 harg0 arg1 harg1 arg2 harg2 arg3 harg3 arg4 harg4 arg5 harg5 x0 x1 x2 x3 x4)]
  unfold kernelRun0_A
  dsimp only
  sl_unfold_words
  rw [View.canon_unit_zero (S := S2048x1024) hz]
  simp only [View.readAt_eq_ld, harg0.read_unread, harg1.read_unread, harg2.read_unread, harg3.read_unread, harg4.read_unread,
    View.ld_unit_zero (S := S2048x1024) hz, View.ld_unit_zero (S := S1024x2048) hz, View.ld_unit_zero (S := S1x2048) hz, View.ld_unit_zero (S := S1x1) hz]
  refine (pay1_apply _ _ _ _ _).trans ?_
  rw [ld_one]

/-! ## The result array after the run -/

section
variable {F : FTy → Type} [FloatOps F]
variable (m : (ℓ : Loc nD τ sig) → Buf (Elt F) ℓ)

/-- Window 0's one block is its whole array. -/
theorem iblk_0 (c : Dev nD) (t : Fin cfg0.N) : iblk m c 0 t = V m c main_v0 := by
  have hz' : (fun a => win0_0.index t a * main_v0.ty.shape.size a) = fun _ => 0 := funext fun a => by
    obtain rfl : t = t0_0 := fin_N0 t
    fin_cases a <;> decide
  exact Memref.read_access_unit_zero (Elt F) main_v0 hz' (fun a => by rw [congrFun hz' a]; simp) (V m c main_v0)

/-- Window 1's one block is its whole array. -/
theorem iblk_1 (c : Dev nD) (t : Fin cfg0.N) : iblk m c 1 t = V m c main_arg1 := by
  have hz' : (fun a => win0_1.index t a * main_arg1.ty.shape.size a) = fun _ => 0 := funext fun a => by
    obtain rfl : t = t0_0 := fin_N0 t
    fin_cases a <;> decide
  exact Memref.read_access_unit_zero (Elt F) main_arg1 hz' (fun a => by rw [congrFun hz' a]; simp) (V m c main_arg1)

/-- Window 2's one block is its whole array. -/
theorem iblk_2 (c : Dev nD) (t : Fin cfg0.N) : iblk m c 2 t = V m c main_v1 := by
  have hz' : (fun a => win0_2.index t a * main_v1.ty.shape.size a) = fun _ => 0 := funext fun a => by
    obtain rfl : t = t0_0 := fin_N0 t
    fin_cases a <;> decide
  exact Memref.read_access_unit_zero (Elt F) main_v1 hz' (fun a => by rw [congrFun hz' a]; simp) (V m c main_v1)

/-- Window 3's one block is its whole array. -/
theorem iblk_3 (c : Dev nD) (t : Fin cfg0.N) : iblk m c 3 t = V m c main_v2 := by
  have hz' : (fun a => win0_3.index t a * main_v2.ty.shape.size a) = fun _ => 0 := funext fun a => by
    obtain rfl : t = t0_0 := fin_N0 t
    fin_cases a <;> decide
  exact Memref.read_access_unit_zero (Elt F) main_v2 hz' (fun a => by rw [congrFun hz' a]; simp) (V m c main_v2)

/-- Window 4's one block is its whole array. -/
theorem iblk_4 (c : Dev nD) (t : Fin cfg0.N) : iblk m c 4 t = V m c main_v3 := by
  have hz' : (fun a => win0_4.index t a * main_v3.ty.shape.size a) = fun _ => 0 := funext fun a => by
    obtain rfl : t = t0_0 := fin_N0 t
    fin_cases a <;> decide
  exact Memref.read_access_unit_zero (Elt F) main_v3 hz' (fun a => by rw [congrFun hz' a]; simp) (V m c main_v3)

end

variable (m : (ℓ : Loc nD τ sig) → Buf (Elt Ideal) ℓ) (ρ : Dev nD → PrngReg)

/-- The gated product of the arguments as launched. -/
def result (c : Dev nD) : Buf (Elt Ideal) ((c.tc : Thread nD τ).loc main_v4) :=
  Cert.KernelMmIdeal.MmValue.gAt (shapeCast S2048x1024 (m ((c.tc : Thread nD τ).loc main_arg0)) shapeCasts_S4x512x1024_S2048x1024)
    (m ((c.tc : Thread nD τ).loc main_arg1))
    (fun j => (shapeCast S1x1 (m ((c.tc : Thread nD τ).loc main_arg4)) shapeCasts_S_S1x1 : Vec Ideal S1x1 .f32) (ix2 0 0) * (shapeCast S1x2048 (m ((c.tc : Thread nD τ).loc main_arg2)) shapeCasts_S2048_S1x2048 : Vec Ideal S1x2048 .f32) j)
    (shapeCast S1x2048 (m ((c.tc : Thread nD τ).loc main_arg3)) shapeCasts_S2048_S1x2048)

/-- The result array, whose one block is the whole array, ends holding it. -/
theorem final (c : Dev nD) : (dats m 0 c).arrAt 5 cfg0.N = result m c := by
  have hz' : (fun a => win0_5.index t0_0 a * main_v4.ty.shape.size a) = fun _ => 0 := funext fun a => by fin_cases a <;> decide
  have hr : ((cfg0.win 5).blk t0_0).view.read (Elt Ideal) ((dats m 0 c).arrAt 5 cfg0.N) = (dats m 0 c).arrAt 5 cfg0.N :=
    Memref.read_access_unit_zero (Elt Ideal) main_v4 hz' (fun a => by rw [congrFun hz' a]; simp) _
  refine hr.symm.trans ((Value.blocks5 m c t0_0 (by decide)).trans ((Value.flushed5_A m c t0_0).trans ?_))
  rw [out_A, iblk_0, iblk_1, iblk_2, iblk_3, iblk_4]
  rw [V_main_arg1]
  rfl

/-- The run: the result array holds the gated product, the arguments are unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final m c), (h c).2⟩) (Value.run_blocks (F := Ideal) m ρ)

end Cert.ReferenceMmIdeal.MmValue
end
-- ==== Proof.lean ====
module

public import proofs.«01_k».proof.Defs
public import proofs.«01_k».proof.Proof.Gen.KernelOut
public import proofs.«01_k».proof.Proof.Gen.KernelOut.Skeleton
public import proofs.«01_k».proof.Proof.Gen.KernelOut.Loops
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Loops
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.ReferenceOutIdeal.Skeleton
public import proofs.«01_k».proof.Proof.Gen.ReferenceOutIdeal.Launch
public import proofs.«01_k».proof.Proof.Gen.ReferenceOutIdeal.Points
public import proofs.«01_k».proof.Proof.Gen.ReferenceOutIdeal.Frame
public import proofs.«01_k».proof.Proof.Gen.KernelLn
public import proofs.«01_k».proof.Proof.Gen.KernelLn.Skeleton
public import proofs.«01_k».proof.Proof.Gen.KernelLn.Loops
public import proofs.«01_k».proof.Proof.Gen.KernelLn.Launch
public import proofs.«01_k».proof.Proof.Gen.KernelLn.Points
public import proofs.«01_k».proof.Proof.Gen.KernelLn.Frame
public import proofs.«01_k».proof.Proof.Gen.KernelLnIdeal
public import proofs.«01_k».proof.Proof.Gen.KernelLnIdeal.Skeleton
public import proofs.«01_k».proof.Proof.Gen.KernelLnIdeal.Loops
public import proofs.«01_k».proof.Proof.Gen.KernelLnIdeal.Launch
public import proofs.«01_k».proof.Proof.Gen.KernelLnIdeal.Points
public import proofs.«01_k».proof.Proof.Gen.KernelLnIdeal.Frame
public import proofs.«01_k».proof.Proof.Gen.ReferenceLnIdeal
public import proofs.«01_k».proof.Proof.Gen.ReferenceLnIdeal.Skeleton
public import proofs.«01_k».proof.Proof.Gen.ReferenceLnIdeal.Launch
public import proofs.«01_k».proof.Proof.Gen.ReferenceLnIdeal.Points
public import proofs.«01_k».proof.Proof.Gen.ReferenceLnIdeal.Frame
public import proofs.«01_k».proof.Proof.Gen.KernelMm
public import proofs.«01_k».proof.Proof.Gen.KernelMm.Skeleton
public import proofs.«01_k».proof.Proof.Gen.KernelMm.Loops
public import proofs.«01_k».proof.Proof.Gen.KernelMm.Launch
public import proofs.«01_k».proof.Proof.Gen.KernelMm.Points
public import proofs.«01_k».proof.Proof.Gen.KernelMm.Frame
public import proofs.«01_k».proof.Proof.Gen.KernelMmIdeal
public import proofs.«01_k».proof.Proof.Gen.KernelMmIdeal.Skeleton
public import proofs.«01_k».proof.Proof.Gen.KernelMmIdeal.Loops
public import proofs.«01_k».proof.Proof.Gen.KernelMmIdeal.Launch
public import proofs.«01_k».proof.Proof.Gen.KernelMmIdeal.Points
public import proofs.«01_k».proof.Proof.Gen.KernelMmIdeal.Frame
public import proofs.«01_k».proof.Proof.Gen.ReferenceMmIdeal
public import proofs.«01_k».proof.Proof.Gen.ReferenceMmIdeal.Skeleton
public import proofs.«01_k».proof.Proof.Gen.ReferenceMmIdeal.Launch
public import proofs.«01_k».proof.Proof.Gen.ReferenceMmIdeal.Points
public import proofs.«01_k».proof.Proof.Gen.ReferenceMmIdeal.Frame
public import proofs.«01_k».proof.Proof.Gen.KernelOutIdeal.Value
public import proofs.«01_k».proof.Proof.Gen.ReferenceOutIdeal.Value
public import proofs.«01_k».proof.Proof.Gen.KernelLnIdeal.Value
public import proofs.«01_k».proof.Proof.Gen.ReferenceLnIdeal.Value
public import proofs.«01_k».proof.Proof.Gen.ReferenceMmIdeal.Value
public import proofs.«01_k».proof.Proof.OutKernel
public import proofs.«01_k».proof.Proof.OutReference
public import proofs.«01_k».proof.Proof.LnKernel
public import proofs.«01_k».proof.Proof.LnReference
public import proofs.«01_k».proof.Proof.MmBitsFrame
public import proofs.«01_k».proof.Proof.MmFrame
public import proofs.«01_k».proof.Proof.MmKernel
public import proofs.«01_k».proof.Proof.MmReference
public import Idealize.ShloMosaic.Adequacy
public import Idealize.ShloMosaic.Init

@[expose] public section

noncomputable section

namespace Cert.Proof

open Idealize.ShloMosaic Idealize.SL.Sem Cert.KernelOut

/-- From memories that agree on the arguments the two projections are equal: the scale row's two factors commute. -/
theorem out_result_eq (m : (ℓ : Loc Cert.KernelOutIdeal.nD Cert.KernelOutIdeal.τ Cert.KernelOutIdeal.sig) → Buf (Elt Ideal) ℓ)
    (m' : (ℓ : Loc Cert.ReferenceOutIdeal.nD Cert.ReferenceOutIdeal.τ Cert.ReferenceOutIdeal.sig) → Buf (Elt Ideal) ℓ)
    (c : Dev Cert.KernelOutIdeal.nD)
    (h0 : m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0))
    (h1 : m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1))
    (h2 : m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2))
    (h3 : m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3))
    (h4 : m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4))
    (h5 : m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) :
    Cert.ReferenceOutIdeal.OutValue.result m' c = Cert.KernelOutIdeal.OutValue.result m c := by
  unfold Cert.ReferenceOutIdeal.OutValue.result Cert.KernelOutIdeal.OutValue.result
  rw [h0, h1, h2, h3, h4, h5]
  exact congrArg (fun sc => Cert.KernelOutIdeal.OutValue.outAt _ _ _ sc _) (funext fun j => mul_comm _ _)

/-- From memories that agree on the arguments the two layer norms leave the same quantised rows and the same largest magnitudes. -/
theorem ln_result_eq (m : (ℓ : Loc Cert.KernelLnIdeal.nD Cert.KernelLnIdeal.τ Cert.KernelLnIdeal.sig) → Buf (Elt Ideal) ℓ)
    (m' : (ℓ : Loc Cert.ReferenceLnIdeal.nD Cert.ReferenceLnIdeal.τ Cert.ReferenceLnIdeal.sig) → Buf (Elt Ideal) ℓ)
    (c : Dev Cert.KernelLnIdeal.nD)
    (h0 : m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0))
    (h1 : m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1))
    (h2 : m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2))
    (h3 : m' ((c.tc : Thread Cert.ReferenceLnIdeal.nD Cert.ReferenceLnIdeal.τ).loc Cert.ReferenceLnIdeal.main_arg3) = m ((c.tc : Thread Cert.KernelLnIdeal.nD Cert.KernelLnIdeal.τ).loc Cert.KernelLnIdeal.main_arg3)) :
    Cert.ReferenceLnIdeal.LnValue.resultQ m' c = Cert.KernelLnIdeal.LnValue.resultQ m c ∧ Cert.ReferenceLnIdeal.LnValue.resultM m' c = Cert.KernelLnIdeal.LnValue.resultM m c := by
  unfold Cert.ReferenceLnIdeal.LnValue.resultQ Cert.ReferenceLnIdeal.LnValue.resultM Cert.KernelLnIdeal.LnValue.resultQ Cert.KernelLnIdeal.LnValue.resultM
  rw [h0, h1, h2, h3]
  exact ⟨(Cert.ReferenceLnIdeal.LnValue.q_eq _ _ _ _ _ _ _).symm, (Cert.ReferenceLnIdeal.LnValue.am_eq _ _ _ _ _ _).symm⟩

/-- From memories that agree on the arguments the two products leave the same gated product: the scale rows differ in the order of one product. -/
theorem mm_result_eq (m : (ℓ : Loc Cert.KernelMmIdeal.nD Cert.KernelMmIdeal.τ Cert.KernelMmIdeal.sig) → Buf (Elt Ideal) ℓ)
    (m' : (ℓ : Loc Cert.ReferenceMmIdeal.nD Cert.ReferenceMmIdeal.τ Cert.ReferenceMmIdeal.sig) → Buf (Elt Ideal) ℓ)
    (c : Dev Cert.KernelMmIdeal.nD)
    (h0 : m' ((c.tc : Thread Cert.ReferenceMmIdeal.nD Cert.ReferenceMmIdeal.τ).loc Cert.ReferenceMmIdeal.main_arg0) = m ((c.tc : Thread Cert.KernelMmIdeal.nD Cert.KernelMmIdeal.τ).loc Cert.KernelMmIdeal.main_arg0))
    (h1 : m' ((c.tc : Thread Cert.ReferenceMmIdeal.nD Cert.ReferenceMmIdeal.τ).loc Cert.ReferenceMmIdeal.main_arg1) = m ((c.tc : Thread Cert.KernelMmIdeal.nD Cert.KernelMmIdeal.τ).loc Cert.KernelMmIdeal.main_arg1))
    (h2 : m' ((c.tc : Thread Cert.ReferenceMmIdeal.nD Cert.ReferenceMmIdeal.τ).loc Cert.ReferenceMmIdeal.main_arg2) = m ((c.tc : Thread Cert.KernelMmIdeal.nD Cert.KernelMmIdeal.τ).loc Cert.KernelMmIdeal.main_arg2))
    (h3 : m' ((c.tc : Thread Cert.ReferenceMmIdeal.nD Cert.ReferenceMmIdeal.τ).loc Cert.ReferenceMmIdeal.main_arg3) = m ((c.tc : Thread Cert.KernelMmIdeal.nD Cert.KernelMmIdeal.τ).loc Cert.KernelMmIdeal.main_arg3))
    (h4 : m' ((c.tc : Thread Cert.ReferenceMmIdeal.nD Cert.ReferenceMmIdeal.τ).loc Cert.ReferenceMmIdeal.main_arg4) = m ((c.tc : Thread Cert.KernelMmIdeal.nD Cert.KernelMmIdeal.τ).loc Cert.KernelMmIdeal.main_arg4)) :
    Cert.ReferenceMmIdeal.MmValue.result m' c = Cert.KernelMmIdeal.MmValue.result m c := by
  unfold Cert.ReferenceMmIdeal.MmValue.result Cert.KernelMmIdeal.MmValue.result
  rw [h0, h1, h2, h3, h4]
  refine congrArg (fun sc => Cert.KernelMmIdeal.MmValue.gAt _ _ sc _) ?_
  funext j
  exact mul_comm _ _

theorem claim : Cert.Claim := ⟨Cert.KernelOut.Gen.facts, Cert.KernelOutIdeal.Gen.facts, Cert.ReferenceOutIdeal.Gen.facts, Cert.KernelLn.Gen.facts, Cert.KernelLnIdeal.Gen.facts, Cert.ReferenceLnIdeal.Gen.facts, Cert.KernelMm.Gen.facts, Cert.KernelMmIdeal.Gen.facts, Cert.ReferenceMmIdeal.Gen.facts,
  fun m ρ _ => Cert.KernelOut.Gen.frame m ρ, fun m ρ _ => Cert.KernelOutIdeal.Gen.frame m ρ, fun m ρ _ => Cert.ReferenceOutIdeal.Gen.frame m ρ, fun m ρ _ => Cert.KernelLn.Gen.frame m ρ, fun m ρ _ => Cert.KernelLnIdeal.Gen.frame m ρ, fun m ρ _ => Cert.ReferenceLnIdeal.Gen.frame m ρ, fun m ρ _ => Cert.KernelMm.Mm.frame m ρ, fun m ρ _ => Cert.KernelMmIdeal.Mm.frame m ρ, fun m ρ _ => Cert.ReferenceMmIdeal.Gen.frame m ρ,
  trivial, by
  intro m ρ m' ρ' _ hagree
  refine ⟨fun c => Cert.KernelOutIdeal.OutValue.result m c, Cert.KernelOutIdeal.OutValue.run m ρ, ?_⟩
  refine (θ_run _ _ _).mono (fun _ h c => ⟨(h c).1.trans ?_, (h c).2⟩) (Cert.ReferenceOutIdeal.OutValue.run m' ρ')
  obtain ⟨h0, h1, h2, h3, h4, h5⟩ := hagree c
  exact out_result_eq m m' c h0 h1 h2 h3 h4 h5, trivial, by
  intro m ρ m' ρ' _ hagree
  refine ⟨fun c => Cert.KernelLnIdeal.LnValue.resultQ m c, fun c => Cert.KernelLnIdeal.LnValue.resultM m c, Cert.KernelLnIdeal.LnValue.run m ρ, ?_⟩
  refine (θ_run _ _ _).mono (fun _ h c => ?_) (Cert.ReferenceLnIdeal.LnValue.run m' ρ')
  obtain ⟨h0, h1, h2, h3⟩ := hagree c
  have e := ln_result_eq m m' c h0 h1 h2 h3
  exact ⟨(h c).1.trans e.1, (h c).2.1.trans e.2, (h c).2.2⟩, trivial, by
  intro m ρ m' ρ' _ hagree
  refine ⟨fun c => Cert.KernelMmIdeal.MmValue.result m c, Cert.KernelMmIdeal.MmValue.run m ρ, ?_⟩
  refine (θ_run _ _ _).mono (fun _ h c => ⟨(h c).1.trans ?_, (h c).2⟩) (Cert.ReferenceMmIdeal.MmValue.run m' ρ')
  obtain ⟨h0, h1, h2, h3, h4⟩ := hagree c
  exact mm_result_eq m m' c h0 h1 h2 h3 h4⟩

end Cert.Proof

end
